-- ==== Defs.lean ====
def Pre_Kernel [hPre_nodes_in_range : Cert.Pre_nodes_in_range.Facts] (m : (ℓ : Loc Cert.Kernel.nD Cert.Kernel.τ Cert.Kernel.sig) → Buf (Elt Bits) ℓ) : Prop :=
  ∀ c : Dev Cert.Kernel.nD,
    (Cert.Pre_nodes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_nodes_in_range : Cert.Pre_nodes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_nodes_in_range_and_finite [hPre_nodes_in_range_and_finite : Cert.Pre_nodes_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nodes_in_range_and_finite [hPre_nodes_in_range_and_finite : Cert.Pre_nodes_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_nodes_in_range : Cert.Pre_nodes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_nodes_in_range : Cert.Pre_nodes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_nodes_in_range_and_finite [hKernelIdeal : Cert.KernelIdeal.Facts] [hPre_nodes_in_range_and_finite : Cert.Pre_nodes_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nodes_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_nodes_in_range_and_finite [hReferenceIdeal : Cert.ReferenceIdeal.Facts] [hPre_nodes_in_range_and_finite : Cert.Pre_nodes_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nodes_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_nodes_in_range_and_finite [hKernelIdeal : Cert.KernelIdeal.Facts] [hReferenceIdeal : Cert.ReferenceIdeal.Facts] [hPre_nodes_in_range_and_finite : Cert.Pre_nodes_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nodes_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_nodes_in_range : Cert.Pre_nodes_in_range.Facts) (hPre_nodes_in_range_and_finite : Cert.Pre_nodes_in_range_and_finite.Facts),
    quiescent_Kernel (hKernel := hKernel) (hPre_nodes_in_range := hPre_nodes_in_range)
    ∧ quiescent_KernelIdeal (hKernelIdeal := hKernelIdeal) (hPre_nodes_in_range := hPre_nodes_in_range)
    ∧ quiescent_KernelIdeal_pre_nodes_in_range_and_finite (hKernelIdeal := hKernelIdeal) (hPre_nodes_in_range_and_finite := hPre_nodes_in_range_and_finite)
    ∧ quiescent_ReferenceIdeal (hReferenceIdeal := hReferenceIdeal)
    ∧ quiescent_ReferenceIdeal_pre_nodes_in_range_and_finite (hReferenceIdeal := hReferenceIdeal) (hPre_nodes_in_range_and_finite := hPre_nodes_in_range_and_finite)
    ∧ preserves_Kernel_KernelIdeal
    ∧ algebraic_KernelIdeal_ReferenceIdeal_pre_nodes_in_range_and_finite (hKernelIdeal := hKernelIdeal) (hReferenceIdeal := hReferenceIdeal) (hPre_nodes_in_range_and_finite := hPre_nodes_in_range_and_finite)
-- ==== Pre_nodes_in_range.lean ====
abbrev S100000x128 : Shape := ⟨2, ![100000, 128]⟩
abbrev S1000 : Shape := ⟨1, ![1000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel

variable [Facts]

def fn {F : FTy → Type} [FloatOps F] (main_arg0 : FVec F S100000x128 .f32) (main_arg1 : FVec F S100000x128 .f32) (main_arg2 : IVec S1000 32) (main_arg3 : FVec F S128x128 .f32) (main_arg4 : FVec F S128 .f32) (main_arg5 : FVec F S128x128 .f32) (main_arg6 : FVec F S128x1 .f32) : IVec S_ 1 :=
  let main_c : IVec S_ 32 := constantI S_ 32 0#32
  let main_v0 : IVec S1000 32 := broadcastInDim S1000 ![] bcast_S_S1000 main_c
  let main_v1 : IVec S1000 1 := cmpi .sge main_arg2 main_v0
  let main_c_0 : IVec S_ 32 := constantI S_ 32 100000#32
  let main_v2 : IVec S1000 32 := broadcastInDim S1000 ![] bcast_S_S1000 main_c_0
  let main_v3 : IVec S1000 1 := cmpi .slt main_arg2 main_v2
  let main_v4 : IVec S1000 1 := andi main_v1 main_v3
  let main_c_1 : IVec S_ 1 := constantI S_ 1 1#1
  let main_v5 : IVec S_ 1 := (fun x v => Host.reduce IntOp.andi x v reducesTo_S1000_S_d0 h_S_) main_v4 main_c_1
  main_v5
-- ==== Pre_nodes_in_range_and_finite.lean ====
abbrev S100000x128 : Shape := ⟨2, ![100000, 128]⟩
abbrev S1000 : Shape := ⟨1, ![1000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S100000x128 .f32) (main_arg1 : FVec F S100000x128 .f32) (main_arg2 : IVec S1000 32) (main_arg3 : FVec F S128x128 .f32) (main_arg4 : FVec F S128 .f32) (main_arg5 : FVec F S128x128 .f32) (main_arg6 : FVec F S128x1 .f32) : IVec S_ 1 :=
  let main_c : IVec S_ 32 := constantI S_ 32 0#32
  let main_v0 : IVec S1000 32 := broadcastInDim S1000 ![] bcast_S_S1000 main_c
  let main_v1 : IVec S1000 1 := cmpi .sge main_arg2 main_v0
  let main_c_0 : IVec S_ 32 := constantI S_ 32 100000#32
  let main_v2 : IVec S1000 32 := broadcastInDim S1000 ![] bcast_S_S1000 main_c_0
  let main_v3 : IVec S1000 1 := cmpi .slt main_arg2 main_v2
  let main_v4 : IVec S1000 1 := andi main_v1 main_v3
  let main_c_1 : IVec S_ 1 := constantI S_ 1 1#1
  let main_v5 : IVec S_ 1 := (fun x v => Host.reduce IntOp.andi x v reducesTo_S1000_S_d0 h_S_) main_v4 main_c_1
  let main_v6 : FVec F S128x1 .f32 := Host.absf main_arg6
  let main_cst : FVec F S_ .f32 := constant S_ .f32 0x7F800000#32
  let main_v7 : FVec F S128x1 .f32 := broadcastInDim S128x1 ![] bcast_S_S128x1 main_cst
  let main_v8 : IVec S128x1 1 := cmpf .olt main_v6 main_v7
  let main_c_2 : IVec S_ 1 := constantI S_ 1 1#1
  let main_v9 : IVec S_ 1 := (fun x v => Host.reduce IntOp.andi x v reducesTo_S128x1_S_d0_1 h_S_) main_v8 main_c_2
  let main_v10 : IVec S_ 1 := andi main_v5 main_v9
  main_v10
-- ==== Kernel.lean ====
abbrev S100000x128 : Shape := ⟨2, ![100000, 128]⟩
abbrev S1000 : Shape := ⟨1, ![1000]⟩
abbrev S128x128 : Shape := ⟨2, ![128, 128]⟩
abbrev S128 : Shape := ⟨1, ![128]⟩
abbrev S128x1 : Shape := ⟨2, ![128, 1]⟩
abbrev S_ : Shape := ⟨0, ![]⟩
abbrev S24 : Shape := ⟨1, ![24]⟩
abbrev S1024 : Shape := ⟨1, ![1024]⟩
abbrev S1024x128 : Shape := ⟨2, ![1024, 128]⟩
abbrev S32 : Shape := ⟨1, ![32]⟩
abbrev S32x128 : Shape := ⟨2, ![32, 128]⟩
abbrev S1000x100x128 : Shape := ⟨3, ![1000, 100, 128]⟩
abbrev S1x128 : Shape := ⟨2, ![1, 128]⟩
abbrev S1000x128 : Shape := ⟨2, ![1000, 128]⟩
abbrev S8x100x128 : Shape := ⟨3, ![8, 100, 128]⟩
abbrev S8x128 : Shape := ⟨2, ![8, 128]⟩
abbrev S1x100x128 : Shape := ⟨3, ![1, 100, 128]⟩
abbrev S100x128 : Shape := ⟨2, ![100, 128]⟩
abbrev S100x1 : Shape := ⟨2, ![100, 1]⟩
abbrev S1x100x1 : Shape := ⟨3, ![1, 100, 1]⟩
abbrev S1 : Shape := ⟨1, ![1]⟩
abbrev S1x1x1 : Shape := ⟨3, ![1, 1, 1]⟩
abbrev S1000x1x128 : Shape := ⟨3, ![1000, 1, 128]⟩

abbrev nBuf : Table → Nat
  | .hbm => 21
  | .local .tc .vmem => 16
  | .local .scVector .vmem => 3
  | _ => 0

abbrev bufTy : (tb : Table) → Fin (nBuf tb) → BufTy
  | .hbm, ⟨0, _⟩ => ⟨S100000x128, .f32⟩
  | .hbm, ⟨1, _⟩ => ⟨S100000x128, .f32⟩
  | .hbm, ⟨2, _⟩ => ⟨S1000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x1, .f32⟩
  | .hbm, ⟨7, _⟩ => ⟨S_, .i32⟩
  | .hbm, ⟨8, _⟩ => ⟨S24, .i32⟩
  | .hbm, ⟨9, _⟩ => ⟨S1024, .i32⟩
  | .hbm, ⟨10, _⟩ => ⟨S1024x128, .f32⟩
  | .hbm, ⟨11, _⟩ => ⟨S1024x128, .f32⟩
  | .hbm, ⟨12, _⟩ => ⟨S1000x100x128, .f32⟩
  | .hbm, ⟨13, _⟩ => ⟨S1000x100x128, .f32⟩
  | .hbm, ⟨14, _⟩ => ⟨S1x128, .f32⟩
  | .hbm, ⟨15, _⟩ => ⟨S1000x128, .f32⟩
  | .hbm, ⟨16, _⟩ => ⟨S1000x128, .f32⟩
  | .hbm, ⟨17, _⟩ => ⟨S1000x128, .f32⟩
  | .hbm, ⟨18, _⟩ => ⟨S1000x128, .f32⟩
  | .hbm, ⟨19, _⟩ => ⟨S1000x1x128, .f32⟩
  | .hbm, ⟨20, _⟩ => ⟨S1000x1x128, .f32⟩
  | .local .tc .vmem, ⟨0, _⟩ => ⟨S8x100x128, .f32⟩
  | .local .tc .vmem, ⟨1, _⟩ => ⟨S8x100x128, .f32⟩
  | .local .tc .vmem, ⟨2, _⟩ => ⟨S8x100x128, .f32⟩
  | .local .tc .vmem, ⟨3, _⟩ => ⟨S8x100x128, .f32⟩
  | .local .tc .vmem, ⟨4, _⟩ => ⟨S8x128, .f32⟩
  | .local .tc .vmem, ⟨5, _⟩ => ⟨S8x128, .f32⟩
  | .local .tc .vmem, ⟨6, _⟩ => ⟨S8x128, .f32⟩
  | .local .tc .vmem, ⟨7, _⟩ => ⟨S8x128, .f32⟩
  | .local .tc .vmem, ⟨8, _⟩ => ⟨S128x128, .f32⟩
  | .local .tc .vmem, ⟨9, _⟩ => ⟨S1x128, .f32⟩
  | .local .tc .vmem, ⟨10, _⟩ => ⟨S128x128, .f32⟩
  | .local .tc .vmem, ⟨11, _⟩ => ⟨S128x1, .f32⟩
  | .local .tc .vmem, ⟨12, _⟩ => ⟨S8x128, .f32⟩
  | .local .tc .vmem, ⟨13, _⟩ => ⟨S8x128, .f32⟩
  | .local .tc .vmem, ⟨14, _⟩ => ⟨S8x128, .f32⟩
  | .local .tc .vmem, ⟨15, _⟩ => ⟨S8x128, .f32⟩
  | .local .scVector .vmem, ⟨0, _⟩ => ⟨S32, .i32⟩
  | .local .scVector .vmem, ⟨1, _⟩ => ⟨S32x128, .f32⟩
  | .local .scVector .vmem, ⟨2, _⟩ => ⟨S32x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_arg0_scv : Ref sig .scVector := ⟨.hbm, 0, rfl⟩
abbrev main_arg1_scv : Ref sig .scVector := ⟨.hbm, 1, rfl⟩
abbrev main_v1_scv : Ref sig .scVector := ⟨.hbm, 9, rfl⟩
abbrev main_v2_0_scv : Ref sig .scVector := ⟨.hbm, 10, rfl⟩
abbrev main_v2_1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg8_1 : Ref sig .tc := ⟨.vmem, 13, rfl⟩
abbrev cc1_stg9_0 : Ref sig .tc := ⟨.vmem, 14, rfl⟩
abbrev cc1_stg9_1 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7_r1 : BitVec 32 := 0#32
  ![v2.toNat, 0]
abbrev grid1 : Pipeline.Grid := ⟨1, ![125], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x100x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x100x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S1000 : Shape := ⟨1, ![1000]⟩
abbrev S128x128 : Shape := ⟨2, ![128, 128]⟩
abbrev S128 : Shape := ⟨1, ![128]⟩
abbrev S128x1 : Shape := ⟨2, ![128, 1]⟩
abbrev S_ : Shape := ⟨0, ![]⟩
abbrev S1000x1 : Shape := ⟨2, ![1000, 1]⟩
abbrev S1000x128 : Shape := ⟨2, ![1000, 128]⟩
abbrev S1000x100x128 : Shape := ⟨3, ![1000, 100, 128]⟩
abbrev S1000x200x128 : Shape := ⟨3, ![1000, 200, 128]⟩
abbrev S200000x128 : Shape := ⟨2, ![200000, 128]⟩
abbrev S1000x200 : Shape := ⟨2, ![1000, 200]⟩
abbrev S200000 : Shape := ⟨1, ![200000]⟩
abbrev S1x128 : Shape := ⟨2, ![1, 128]⟩
abbrev S200000x1 : Shape := ⟨2, ![200000, 1]⟩
abbrev S1000x200x1 : Shape := ⟨3, ![1000, 200, 1]⟩
abbrev S1000x1x128 : Shape := ⟨3, ![1000, 1, 128]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S100000x128, .f32⟩
  | 2 => ⟨S1000, .i32⟩
  | 3 => ⟨S128x128, .f32⟩
  | 4 => ⟨S128, .f32⟩
  | 5 => ⟨S128x128, .f32⟩
  | 6 => ⟨S128x1, .f32⟩
  | 7 => ⟨S_, .i32⟩
  | 8 => ⟨S1000, .i32⟩
  | 9 => ⟨S1000, .i1⟩
  | 10 => ⟨S_, .i32⟩
  | 11 => ⟨S1000, .i32⟩
  | 12 => ⟨S1000, .i32⟩
  | 13 => ⟨S1000, .i32⟩
  | 14 => ⟨S1000x1, .i32⟩
  | 15 => ⟨S1000x128, .f32⟩
  | 16 => ⟨S_, .i32⟩
  | 17 => ⟨S1000, .i32⟩
  | 18 => ⟨S1000, .i1⟩
  | 19 => ⟨S_, .i32⟩
  | 20 => ⟨S1000, .i32⟩
  | 21 => ⟨S1000, .i32⟩
  | 22 => ⟨S1000, .i32⟩
  | 23 => ⟨S1000x1, .i32⟩
  | 24 => ⟨S1000x128, .f32⟩
  | 25 => ⟨S1000x100x128, .f32⟩
  | 26 => ⟨S1000x100x128, .f32⟩
  | 27 => ⟨S1000x200x128, .f32⟩
  | 28 => ⟨S200000x128, .f32⟩
  | 29 => ⟨S1000, .i32⟩
  | 30 => ⟨S1000x200, .i32⟩
  | 31 => ⟨S200000, .i32⟩
  | 32 => ⟨S200000x128, .f32⟩
  | 33 => ⟨S1x128, .f32⟩
  | 34 => ⟨S200000x128, .f32⟩
  | 35 => ⟨S200000x128, .f32⟩
  | 36 => ⟨S1000x128, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x128, .f32⟩
  | 46 => ⟨S1000x128, .f32⟩
  | 47 => ⟨S_, .i32⟩
  | 48 => ⟨S200000, .i32⟩
  | 49 => ⟨S200000, .i1⟩
  | 50 => ⟨S_, .i32⟩
  | 51 => ⟨S200000, .i32⟩
  | 52 => ⟨S200000, .i32⟩
  | 53 => ⟨S200000, .i32⟩
  | 54 => ⟨S200000x1, .i32⟩
  | 55 => ⟨S200000x128, .f32⟩
  | 56 => ⟨S200000x128, .f32⟩
  | 57 => ⟨S200000x128, .f32⟩
  | 58 => ⟨S200000x128, .f32⟩
  | 59 => ⟨S_, .f32⟩
  | 60 => ⟨S200000x128, .f32⟩
  | 61 => ⟨S200000x128, .f32⟩
  | 62 => ⟨S_, .f32⟩
  | 63 => ⟨S200000x128, .f32⟩
  | 64 => ⟨S200000x128, .f32⟩
  | 65 => ⟨S200000x1, .f32⟩
  | 66 => ⟨S200000x128, .f32⟩
  | 67 => ⟨S200000x128, .f32⟩
  | 68 => ⟨S200000x128, .f32⟩
  | 69 => ⟨S_, .f32⟩
  | 70 => ⟨S200000x128, .f32⟩
  | 71 => ⟨S200000x128, .f32⟩
  | 72 => ⟨S_, .f32⟩
  | 73 => ⟨S200000x128, .f32⟩
  | 74 => ⟨S200000x128, .f32⟩
  | 75 => ⟨S200000x1, .f32⟩
  | 76 => ⟨S1000x200x1, .f32⟩
  | 77 => ⟨S_, .f32⟩
  | 78 => ⟨S1000x1, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x1, .f32⟩
  | 88 => ⟨S200000x1, .f32⟩
  | 89 => ⟨S200000x1, .f32⟩
  | 90 => ⟨S_, .f32⟩
  | 91 => ⟨S1000x1, .f32⟩
  | 92 => ⟨S200000x1, .i32⟩
  | 93 => ⟨S1000x1, .f32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x1, .f32⟩
  | 103 => ⟨S200000x1, .f32⟩
  | 104 => ⟨S1000x200x1, .f32⟩
  | 105 => ⟨S_, .f32⟩
  | 106 => ⟨S1000x1, .f32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000x1, .f32⟩
  | 116 => ⟨S200000x1, .f32⟩
  | 117 => ⟨S200000x1, .f32⟩
  | 118 => ⟨S_, .f32⟩
  | 119 => ⟨S1000x1, .f32⟩
  | 120 => ⟨S200000x1, .i32⟩
  | 121 => ⟨S1000x1, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S100000x128, .f32⟩

abbrev hbmTy0_1 (i : Nat) : BufTy := match i % 128 with
  | 0 => ⟨S200000, .i32⟩
  | 1 => ⟨S200000x1, .i32⟩
  | 2 => ⟨S200000x1, .f32⟩
  | 3 => ⟨S200000x1, .f32⟩
  | 4 => ⟨S200000x128, .f32⟩
  | 5 => ⟨S200000x128, .f32⟩
  | 6 => ⟨S_, .f32⟩
  | 7 => ⟨S1000x128, .f32⟩
  | 8 => ⟨S200000x1, .i32⟩
  | 9 => ⟨S1000x128, .f32⟩
  | 10 => ⟨S200000x128, .f32⟩
  | 11 => ⟨S200000x128, .f32⟩
  | 12 => ⟨S_, .f32⟩
  | 13 => ⟨S1000x128, .f32⟩
  | 14 => ⟨S200000x1, .i32⟩
  | 15 => ⟨S1000x128, .f32⟩
  | 16 => ⟨S1000x1x128, .f32⟩
  | 17 => ⟨S1000x1x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_c_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_c_17 : Ref sig .tc := ⟨.hbm, 107, rfl⟩
abbrev main_v81 : Ref sig .tc := ⟨.hbm, 108, rfl⟩
abbrev main_v82 : Ref sig .tc := ⟨.hbm, 109, rfl⟩
abbrev main_c_18 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_20 : Ref sig .tc := ⟨.hbm, 122, rfl⟩
abbrev main_v93 : Ref sig .tc := ⟨.hbm, 123, rfl⟩
abbrev main_v94 : Ref sig .tc := ⟨.hbm, 124, rfl⟩
abbrev main_c_21 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_22 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_23 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== Proof.GatherTileIdeal.lean ====
/-
  The gather kernel on one vector subcore. Thirty-two tasks (two cores, sixteen subcores each) cut the padded list of
  1024 node numbers into blocks of 32. A task copies its block of the list into its own memory, starts two row gathers
  over it at once (one per feature table, each on its own semaphore), waits for both and writes the two blocks of
  gathered rows out. Both tables and the list are only read, so every task holds a thirty-second share of each; while
  the two gathers are in flight each holds half of the task's copy of the list.
-/
module

public import proofs.«01_k».proof.KernelIdeal
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the staged region's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The staged region's rounds sit in the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## Buffers -/

variable (m : (ℓ : Loc nD τ sig) → Buf (Elt F) ℓ)

abbrev aLoc (d : Dev nD) : Loc nD τ sig := (SparseCore.T d).loc main_arg0
abbrev bLoc (d : Dev nD) : Loc nD τ sig := (SparseCore.T d).loc main_arg1
abbrev lLoc (d : Dev nD) : Loc nD τ sig := (SparseCore.T d).loc main_v1
abbrev oLoc (d : Dev nD) : Loc nD τ sig := (SparseCore.T d).loc main_v2_0
abbrev pLoc (d : Dev nD) : Loc nD τ sig := (SparseCore.T d).loc main_v2_1

local notation "aV" => (Memref.whole Cert.KernelIdeal.main_arg0_scv : Memref Cert.KernelIdeal.sig Kind.scVector Space.hbm Cert.KernelIdeal.S100000x128 EltTy.f32)
local notation "bV" => (Memref.whole Cert.KernelIdeal.main_arg1_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S1024 EltTy.i32)
local notation "oV" => (Memref.whole Cert.KernelIdeal.main_v2_0_scv : Memref Cert.KernelIdeal.sig Kind.scVector Space.hbm Cert.KernelIdeal.S1024x128 EltTy.f32)
local notation "pV" => (Memref.whole Cert.KernelIdeal.main_v2_1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "uV" => (Memref.whole Cert.KernelIdeal.cc0_scratch1 : Memref Cert.KernelIdeal.sig Kind.scVector Space.vmem Cert.KernelIdeal.S32x128 EltTy.f32)
local notation "wV" => (Memref.whole Cert.KernelIdeal.cc0_scratch2 : Memref Cert.KernelIdeal.sig Kind.scVector Space.vmem Cert.KernelIdeal.S32x128 EltTy.f32)

theorem odiv : 32 ∣ S1024x128.size 0 := ⟨32, rfl⟩
/-- The `k`-th block of 32 rows. -/
abbrev blockRect (k : Fin 32) : Rect S1024x128 := Rect.part (s := S1024x128) (a₀ := 0) odiv k
abbrev blockSet (k : Fin 32) : Finset S1024x128.Idx := (blockRect k).set

/-- The share of a read-only operand that block `k`'s task holds. -/
abbrev qk (k : Fin 32) : PosShare TreeShare := leaf 5 fullShare k

/-- The row of a table that entry `r` of the list names (in range by the precondition; the remainder only makes the
    definition total). -/
def rowOf (ix : S1024.Idx → BitVec 32) (r : Fin 1024) : Fin 100000 :=
  ⟨(ix (fun a => match a with | ⟨0, _⟩ => r)).toNat % 100000, Nat.mod_lt _ (Nat.succ_pos 99999)⟩

/-- The table's rows at the list's entries. -/
def gat {α : Type} (x : S100000x128.Idx → α) (ix : S1024.Idx → BitVec 32) : S1024x128.Idx → α :=
  fun j => x (fun a => match a with | ⟨0, _⟩ => rowOf ix (j 0) | ⟨1, _⟩ => j 1)

/-! ## What the handshakes carry -/

variable (ix : Dev nD → S1024.Idx → BitVec 32)

/-- What task `k` is handed: its shares of the tables and of the list, and its blocks of the two results. -/
def goRes (d : Dev nD) (k : Fin 32) : sProp 𝕄 :=
  iprop((aLoc d ↦{qk k} m (aLoc d)) ∗ (bLoc d ↦{qk k} m (bLoc d)) ∗ (lLoc d ↦{qk k} (ix d : Buf (Elt F) (lLoc d)))
    ∗ (oLoc d ↦[blockSet k]{fullShare} m (oLoc d)) ∗ (pLoc d ↦[blockSet k]{fullShare} m (pLoc d)))
/-- What it hands back: the same shares, and its blocks at the gathered rows. -/
def tdRes (d : Dev nD) (k : Fin 32) : sProp 𝕄 :=
  iprop((aLoc d ↦{qk k} m (aLoc d)) ∗ (bLoc d ↦{qk k} m (bLoc d)) ∗ (lLoc d ↦{qk k} (ix d : Buf (Elt F) (lLoc d)))
    ∗ (oLoc d ↦[blockSet k]{fullShare} (gat (m (aLoc d)) (ix d) : Buf (Elt F) (oLoc d)))
    ∗ (pLoc d ↦[blockSet k]{fullShare} (gat (m (bLoc d)) (ix d) : Buf (Elt F) (pLoc d))))

instance goRes_storable (d : Dev nD) (k : Fin 32) : BI.Storable (upEmb : UEmb _ 𝕄) (goRes m ix d k) := by unfold goRes; infer_instance
instance tdRes_storable (d : Dev nD) (k : Fin 32) : BI.Storable (upEmb : UEmb _ 𝕄) (tdRes m ix d k) := by unfold tdRes; infer_instance

/-- The block of subcore `i` of core `c`. -/
def blk (c : Fin 2) (i : Fin 16) : Fin 32 := ⟨2 * i.val + c.val, by omega⟩

/-- A core's part of a call is its sixteen tasks' parts. -/
def P : (K (F := F)).Pay (nD := nD) (Val := Elt F) (Name := ℕ) (U := UU) where
  st := fun q d c => match q with | 0 => bigSep Finset.univ fun i : Fin 16 => goRes m ix d (blk c i)
  dn := fun q d c => match q with | 0 => bigSep Finset.univ fun i : Fin 16 => tdRes m ix d (blk c i)
  go := fun q d c i => match q with | 0 => goRes m ix d (blk c i)
  td := fun q d c i => match q with | 0 => tdRes m ix d (blk c i)
  x := fun _ _ => iprop(emp)

instance P_storable : (P (F := F) m ix).IsStorable where
  st q d c := match q with
    | 0 => (inferInstance : BI.Storable (upEmb : UEmb _ 𝕄) (bigSep Finset.univ fun i : Fin 16 => goRes m ix d (blk c i)))
  dn q d c := match q with
    | 0 => (inferInstance : BI.Storable (upEmb : UEmb _ 𝕄) (bigSep Finset.univ fun i : Fin 16 => tdRes m ix d (blk c i)))
  go q d c i := match q with | 0 => goRes_storable m ix d (blk c i)
  td q d c i := match q with | 0 => tdRes_storable m ix d (blk c i)

variable [FloatOps F]

/-! ## One task -/

section Tile

variable (d : Dev nD) (L : grid0.Coords)

abbrev cV (L : grid0.Coords) : Fin τ.nSC := (L 0).castLE hcore0
abbrev jV (L : grid0.Coords) : Fin τ.nSub := (L 1).castLE hsub0
abbrev kL (L : grid0.Coords) : Fin 32 := blk (L 0) (L 1)

/-- The task's block of the list, its two result blocks and the tables as the kernel addresses them. -/
abbrev lK (L : grid0.Coords) : Memref sig .scVector .hbm S32 .i32 := (lV).slice (Rect.unit (s := S1024) (k0_off1 L) S32.size (k0_off1_inb L)) (fun _ => rfl)
abbrev oK (L : grid0.Coords) : Memref sig .scVector .hbm S32x128 .f32 := (oV).slice (Rect.unit (s := S1024x128) (k0_off2 L) S32x128.size (k0_off2_inb L)) (fun _ => rfl)
abbrev pK (L : grid0.Coords) : Memref sig .scVector .hbm S32x128 .f32 := (pV).slice (Rect.unit (s := S1024x128) (k0_off2 L) S32x128.size (k0_off2_inb L)) (fun _ => rfl)
abbrev aK : Memref sig .scVector .hbm S100000x128 .f32 := (aV).slice (Rect.unit (s := S100000x128) ![0, 0] S100000x128.size inb_S100000x128_S100000x128_0_0) (fun _ => rfl)
abbrev bK : Memref sig .scVector .hbm S100000x128 .f32 := (bV).slice (Rect.unit (s := S100000x128) ![0, 0] S100000x128.size inb_S100000x128_S100000x128_0_0) (fun _ => rfl)

omit [FloatOps F] in
theorem rect_eq : Rect.unit (s := S1024x128) (k0_off2 L) S32x128.size (k0_off2_inb L) = blockRect (kL L) := by
  unfold blockRect Rect.part Rect.block
  congr 1 <;> funext a
  · rw [k0_off2_eq]
    match a with
    | 0 => simp [Shape.partIx, Shape.partSize, kL, blk]; omega
    | 1 => simp [Shape.partIx, Shape.partSize]
  · match a with
    | 0 => simp [Shape.partSize]
    | 1 => simp [Shape.partSize]

omit [FloatOps F] in
theorem set_oK : (oK L).view.set = blockSet (kL L) := by
  show ((View.whole (main_v2_0_scv : Ref sig .scVector)).slice _).set = _
  rw [rect_eq, View.set_slice]; exact Finset.map_refl
omit [FloatOps F] in
theorem set_pK : (pK L).view.set = blockSet (kL L) := by
  show ((View.whole (main_v2_1_scv : Ref sig .scVector)).slice _).set = _
  rw [rect_eq, View.set_slice]; exact Finset.map_refl

/-- Semaphore `s` of the task's subcore. -/
abbrev cell (d : Dev nD) (L : grid0.Coords) (s : DmaSem sig) : GSem nD τ sig := (V d (cV L) (jV L), .dma s)

omit [FloatOps F] in
theorem mem_cell (s : DmaSem sig) (h : (SemLoc.dma s : SemLoc sig).isScoped .scVector = true) : cell d L s ∈ ownCells (V d (cV L) (jV L)) :=
  (mem_ownCells (g := cell d L s)).mpr ⟨rfl, h⟩
omit [FloatOps F] in
theorem cell_ne {s s' : DmaSem sig} (h : s ≠ s') : cell d L s ≠ cell d L s' := by
  intro e; apply h; simpa [cell] using e

/-- The subcore's cells besides the five the kernel uses. -/
abbrev restCells (d : Dev nD) (L : grid0.Coords) : Finset (GSem nD τ sig) :=
  (((((ownCells (V d (cV L) (jV L))).erase (cell d L cc0_scoped0.sem)).erase (cell d L cc0_scratch3.sem)).erase (cell d L cc0_scratch4.sem)).erase
    (cell d L cc0_scoped1.sem)).erase (cell d L cc0_scoped2.sem)

omit [FloatOps F] in
theorem ownSems0_V :
    (ownSems0 (V d (cV L) (jV L)) : sProp 𝕄)
      = iprop(semVal (cell d L cc0_scoped0.sem) 0 ∗ semVal (cell d L cc0_scratch3.sem) 0 ∗ semVal (cell d L cc0_scratch4.sem) 0
          ∗ semVal (cell d L cc0_scoped1.sem) 0 ∗ semVal (cell d L cc0_scoped2.sem) 0 ∗ bigSep (restCells d L) fun g => semVal g 0) := by
  unfold SparseCore.Cfg.ownSems0
  rw [SparseCore.bigSep_erase' (mem_cell d L cc0_scoped0.sem (by decide)),
    SparseCore.bigSep_erase' (i := cell d L cc0_scratch3.sem) (by
      simp only [Finset.mem_erase]; exact ⟨cell_ne d L (by decide), mem_cell d L _ (by decide)⟩),
    SparseCore.bigSep_erase' (i := cell d L cc0_scratch4.sem) (by
      simp only [Finset.mem_erase]; exact ⟨cell_ne d L (by decide), cell_ne d L (by decide), mem_cell d L _ (by decide)⟩),
    SparseCore.bigSep_erase' (i := cell d L cc0_scoped1.sem) (by
      simp only [Finset.mem_erase]; exact ⟨cell_ne d L (by decide), cell_ne d L (by decide), cell_ne d L (by decide), mem_cell d L _ (by decide)⟩),
    SparseCore.bigSep_erase' (i := cell d L cc0_scoped2.sem) (by
      simp only [Finset.mem_erase]
      exact ⟨cell_ne d L (by decide), cell_ne d L (by decide), cell_ne d L (by decide), cell_ne d L (by decide), mem_cell d L _ (by decide)⟩)]

/-- The subcore's buffers besides the three the kernel uses. -/
abbrev restRefs (L : grid0.Coords) : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep (restRefs L) fun b => iprop(∃ f, ((d, b) : Loc nD τ sig) ↦{fullShare} f)) := by
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) h
  have ne : ∀ b b' : Ref sig .scVector, b ≠ b' → (Proc.scVector (cV L) (jV L)).devRef b ≠ (Proc.scVector (cV L) (jV L)).devRef b' :=
    fun _ _ h e => h (Proc.devRef_injective _ e)
  unfold SparseCore.Cfg.ownBufs
  refine (SparseCore.bigSep_erase' (own cc0_scratch0 rfl)).trans ?_
  rw [SparseCore.bigSep_erase' (i := (Proc.scVector (cV L) (jV L)).devRef cc0_scratch1) (by
      simp only [Finset.mem_erase]; exact ⟨ne _ _ (by decide), own _ rfl⟩),
    SparseCore.bigSep_erase' (i := (Proc.scVector (cV L) (jV L)).devRef cc0_scratch2) (by
      simp only [Finset.mem_erase]; exact ⟨ne _ _ (by decide), ne _ _ (by decide), own _ rfl⟩)]

/-- The task's block of the list. -/
def lread (L : grid0.Coords) : S32.Idx → BitVec 32 := (lK L).view.read (Elt F) (ix d : Buf (Elt F) (lLoc d))

omit [FloatOps F] in
/-- The words the streams read are rows of the tables. -/
theorem inb_list (hix : ∀ d j, (ix d j).toNat < 100000) :
    ∀ x, ((sV).view.read (Elt F) (lread (F := F) ix d L : Buf (Elt F) ((sV).view.loc (V d (cV L) (jV L)))) x).toNat
      < S100000x128.size gathers_S100000x128_S32x128.axis :=
  fun _ => hix d _

omit [FloatOps F] in
/-- Where entry `x 0` of the task's block sits in the list. -/
theorem lread_apply (x : S32x128.Idx) (k : Fin 32) (hk : k.val = (x 0).val) :
    lread (F := F) ix d L (S32.rowMajor.symm k)
      = ix d (fun a => match a with | ⟨0, _⟩ => ((Rect.unit (s := S1024x128) (k0_off2 L) S32x128.size (k0_off2_inb L)).emb x 0 : Fin 1024)) := by
  unfold lread
  rw [View.read_apply]
  refine (cast_eq _ _).trans (congrArg (ix d) ?_)
  funext a
  match a with
  | ⟨0, _⟩ =>
    apply Fin.ext
    show k0_off1 L 0 + 1 * (S32.rowMajor.symm k 0).val = k0_off2 L 0 + 1 * (x 0).val
    have e : (S32.rowMajor.symm k 0).val = k.val := by
      refine (Shape.rowMajor_val_one (S32.rowMajor.symm k)).symm.trans ?_
      exact congrArg Fin.val (S32.rowMajor.apply_symm_apply k)
    rw [k0_off1_eq, k0_off2_eq, e, hk]
    rfl

/-- A table gathered over the task's block of the list is the task's block of the table gathered over the list. -/
theorem payload_eq (hix : ∀ d j, (ix d j).toNat < 100000) (tab : S100000x128.Idx → Elt F .f32) (src : S100000x128.Idx → Elt F .f32) (hsrc : src = tab)
    (hin : ∀ x, ((sV).view.read (Elt F) (lread (F := F) ix d L : Buf (Elt F) ((sV).view.loc (V d (cV L) (jV L)))) x).toNat
      < S100000x128.size gathers_S100000x128_S32x128.axis) (hn : S32.numel = S32x128.size gathers_S100000x128_S32x128.axis') (x : S32x128.Idx) :
    SparseCore.gatherPayload gathers_S100000x128_S32x128 src
        (SparseCore.rows ((sV).view.read (Elt F) (lread (F := F) ix d L : Buf (Elt F) ((sV).view.loc (V d (cV L) (jV L))))) hn hin) x
      = gat tab (ix d) ((Rect.unit (s := S1024x128) (k0_off2 L) S32x128.size (k0_off2_inb L)).emb x) := by
  subst hsrc
  unfold SparseCore.gatherPayload gat
  refine congrArg src ?_
  funext a
  match a with
  | ⟨0, _⟩ =>
    apply Fin.ext
    refine (congrArg Fin.val (Shape.Gathers.idx_axis gathers_S100000x128_S32x128 _ x)).trans ?_
    show (lread (F := F) ix d L (S32.rowMajor.symm _)).toNat = (ix d _).toNat % 100000
    exact (congrArg BitVec.toNat (lread_apply ix d L x _ rfl)).trans (Nat.mod_eq_of_lt (hix d _)).symm
  | ⟨1, _⟩ =>
    apply Fin.ext
    refine (Shape.Gathers.idx_of_ne gathers_S100000x128_S32x128 _ x ⟨1, by decide⟩ (by decide)).trans ?_
    show (x 1).val = k0_off2 L 1 + 1 * (x 1).val
    rw [k0_off2_eq]
    show (x 1).val = 0 + 1 * (x 1).val
    omega

omit [FloatOps F] in
/-- Every word of a table, read through the kernel's name for all of it. -/
theorem read_aK (f : Buf (Elt F) (aLoc d)) : (aK).view.read (Elt F) f = f := by
  funext x
  rw [View.read_apply]
  refine (cast_eq _ _).trans (congrArg f ?_)
  funext a
  apply Fin.ext
  show (![0, 0] : Fin 2 → Nat) a + 1 * (x a).val = (x a).val
  match a with
  | ⟨0, _⟩ => exact (Nat.zero_add _).trans (Nat.one_mul _)
  | ⟨1, _⟩ => exact (Nat.zero_add _).trans (Nat.one_mul _)
omit [FloatOps F] in
theorem read_bK (f : Buf (Elt F) (bLoc d)) : (bK).view.read (Elt F) f = f := by
  funext x
  rw [View.read_apply]
  refine (cast_eq _ _).trans (congrArg f ?_)
  funext a
  apply Fin.ext
  show (![0, 0] : Fin 2 → Nat) a + 1 * (x a).val = (x a).val
  match a with
  | ⟨0, _⟩ => exact (Nat.zero_add _).trans (Nat.one_mul _)
  | ⟨1, _⟩ => exact (Nat.zero_add _).trans (Nat.one_mul _)

omit [FloatOps F] in
/-- A whole block written in one piece reads back as the piece. -/
theorem block_write (v : View sig .scVector .hbm S32x128 .f32) (f : v.ty.Contents (Elt F)) (w : S32x128.Idx → Elt F .f32) (x : S32x128.Idx) :
    v.writes (Elt F) f [⟨Rect.whole S32x128, w⟩] (v.emb x) = _root_.cast (congrArg (Elt F) v.elt_eq.symm) (w x) := by
  have e : v.emb x = (v.slice (Rect.whole S32x128)).emb x := by
    show v.emb x = v.emb ((Rect.whole S32x128).emb x)
    rw [Rect.emb_whole_apply]
  rw [View.writes_singleton, e]
  exact View.write_emb_of_mem (v := v.slice (Rect.whole S32x128)) f w (Finset.mem_univ x)

omit [FloatOps F] in
/-- A result block written whole at the rows of `g` that it covers holds `g`. -/
theorem block_pts (g f : Buf (Elt F) (oLoc d)) (w : S32x128.Idx → Elt F .f32)
    (hw : ∀ x, w x = g ((Rect.unit (s := S1024x128) (k0_off2 L) S32x128.size (k0_off2_inb L)).emb x)) :
    ((oK L).view.loc (V d (cV L) (jV L)) ↦[(oK L).view.set]{fullShare} (oK L).view.writes (Elt F) f [⟨Rect.whole S32x128, w⟩] : sProp 𝕄)
      = oLoc d ↦[blockSet (kL L)]{fullShare} g := by
  rw [set_oK]
  refine pointsTo_congr fun i hi => ?_
  rw [← set_oK] at hi
  obtain ⟨x, -, rfl⟩ := Finset.mem_map.mp hi
  exact (block_write (oK L).view f w x).trans ((cast_eq _ _).trans (hw x))
omit [FloatOps F] in
theorem block_pts' (g f : Buf (Elt F) (pLoc d)) (w : S32x128.Idx → Elt F .f32)
    (hw : ∀ x, w x = g ((Rect.unit (s := S1024x128) (k0_off2 L) S32x128.size (k0_off2_inb L)).emb x)) :
    ((pK L).view.loc (V d (cV L) (jV L)) ↦[(pK L).view.set]{fullShare} (pK L).view.writes (Elt F) f [⟨Rect.whole S32x128, w⟩] : sProp 𝕄)
      = pLoc d ↦[blockSet (kL L)]{fullShare} g := by
  rw [set_pK]
  refine pointsTo_congr fun i hi => ?_
  rw [← set_pK] at hi
  obtain ⟨x, -, rfl⟩ := Finset.mem_map.mp hi
  exact (block_write (pK L).view f w x).trans ((cast_eq _ _).trans (hw x))

omit [FloatOps F] in
/-- A scratch block just overwritten reads as what was written. -/
theorem staged_u (f pay : S32x128.Idx → Elt F .f32) :
    (ReadAs.same : ReadAs (Elt F) S32x128 .f32 S32x128 .f32).apply ((uV).view.read (Elt F) ((uV).view.write (Elt F) f pay Finset.univ)) = pay := by
  rw [View.write_whole_univ]; rfl
omit [FloatOps F] in
theorem staged_w (f pay : S32x128.Idx → Elt F .f32) :
    (ReadAs.same : ReadAs (Elt F) S32x128 .f32 S32x128 .f32).apply ((wV).view.read (Elt F) ((wV).view.write (Elt F) f pay Finset.univ)) = pay := by
  rw [View.write_whole_univ]; rfl

set_option maxHeartbeats 4000000 in
/-- The task: the list fetched, both gathers started over halves of it, both awaited, both blocks written out. -/
theorem tile_body (hF : (K (F := F)).Facts) (hix : ∀ d j, (ix d j).toNat < 100000) (O : CellTallies nD τ sig (HIx 1)) (W : Waits sig (HIx 1)) (hO : ∀ g, O g none = 0) :
    iprop(levAts (K (F := F)).L (K (F := F)).lev ∗ emp ∗ goRes m ix d (kL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L aV (Memref.isWhole_whole _) bV (Memref.isWhole_whole _) lV (Memref.isWhole_whole _) oV (Memref.isWhole_whole _) pV (Memref.isWhole_whole _)
            sV (Memref.isWhole_whole _) uV (Memref.isWhole_whole _) wV (Memref.isWhole_whole _) cc0_scratch3 cc0_scratch4 cc0_scoped0 cc0_scoped1 cc0_scoped2)
          fun _ => iprop(tdRes m ix d (kL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  unfold goRes tdRes
  rw [(K (F := F)).scopedBufs_V hF d (cV L) (jV L), SparseCore.Cfg.scopedSems0_V (Val := Elt F) d (cV L) (jV L), ownSems0_V, ownBufs_V]
  iintro ⟨#Hlv, -, ⟨Ha, Hb, Hl, Ho, Hp⟩, ⟨⟨%fs, Hs⟩, ⟨%fu, Hu⟩, ⟨%fw, Hw⟩, Hbufs⟩, ⟨Hc0, Hc3, Hc4, Hc1, Hc2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (show (lLoc d ↦{qk (kL L)} (ix d : Buf (Elt F) (lLoc d)) : sProp 𝕄)
    = (lV).view.loc (V d (cV L) (jV L)) ↦{qk (kL L)} (ix d : Buf (Elt F) (lLoc d)) from rfl)) $$ Hl
  ihave Ha' := (Entails.of_eq (show (aLoc d ↦{qk (kL L)} m (aLoc d) : sProp 𝕄) = (aV).view.loc (V d (cV L) (jV L)) ↦{qk (kL L)} m (aLoc d) from rfl)) $$ Ha
  ihave Hb' := (Entails.of_eq (show (bLoc d ↦{qk (kL L)} m (bLoc d) : sProp 𝕄) = (bV).view.loc (V d (cV L) (jV L)) ↦{qk (kL L)} m (bLoc d) from rfl)) $$ Hb
  ihave Hs' := (Entails.of_eq (show ((V d (cV L) (jV L)).loc cc0_scratch0 ↦{fullShare} fs : sProp 𝕄) = (sV).view.loc (V d (cV L) (jV L)) ↦{fullShare} fs from rfl)) $$ Hs
  ihave Hu' := (Entails.of_eq (show ((V d (cV L) (jV L)).loc cc0_scratch1 ↦{fullShare} fu : sProp 𝕄) = (uV).view.loc (V d (cV L) (jV L)) ↦{fullShare} fu from rfl)) $$ Hu
  ihave Hw' := (Entails.of_eq (show ((V d (cV L) (jV L)).loc cc0_scratch2 ↦{fullShare} fw : sProp 𝕄) = (wV).view.loc (V d (cV L) (jV L)) ↦{fullShare} fw from rfl)) $$ Hw
  ihave Ho' := (Entails.of_eq (show (oLoc d ↦[blockSet (kL L)]{fullShare} m (oLoc d) : sProp 𝕄)
    = (oK L).view.loc (V d (cV L) (jV L)) ↦[(oK L).view.set]{fullShare} m (oLoc d) by rw [set_oK])) $$ Ho
  ihave Hp' := (Entails.of_eq (show (pLoc d ↦[blockSet (kL L)]{fullShare} m (pLoc d) : sProp 𝕄)
    = (pK L).view.loc (V d (cV L) (jV L)) ↦[(pK L).view.set]{fullShare} m (pLoc d) by rw [set_pK])) $$ Hp
  sl_exec
  ihave Hs1 := (Entails.of_eq (show ((sV).view.loc (V d (cV L) (jV L)) ↦{fullShare} View.write (Elt F) (sV).view fs (tile_body.sl.dma0 ix d L) Finset.univ : sProp 𝕄)
      = (sV).view.loc (V d (cV L) (jV L)) ↦{fullShare} (lread (F := F) ix d L : Buf (Elt F) ((sV).view.loc (V d (cV L) (jV L)))) by
    rw [View.write_whole_univ]; rfl)) $$ Hs'
  ihave Hs2 := (pointsTo_share (PosShare.mem_left_op_right fullShare)).1 $$ Hs1
  icases Hs2 with ⟨HsL, HsR⟩
  have hN : ∀ h : S100000x128.Gathers 0 S32x128, ∑ j, ((uV).slice (S32x128.rowRect h.axis' j) (S32x128.stride_rowRect h.axis' j)).view.dmaCredit
      = (uV).view.dmaCredit := by decide
  have hN' : ∀ h : S100000x128.Gathers 0 S32x128, ∑ j, ((wV).slice (S32x128.rowRect h.axis' j) (S32x128.stride_rowRect h.axis' j)).view.dmaCredit
      = (wV).view.dmaCredit := by decide
  iapply (SparseCore.wp_gatherFromWhole countersEmb 𝒱₀ (V d (cV L) (jV L)) none (hg := gathers_S100000x128_S32x128) (default : HIx 1)
      (uV).view.dmaCredit (hN _) (by decide) (inb_list (F := F) ix d L hix)) $$ [Ha' Hu' HsL Hc3]
  · isplitl [Ha']; · iexact Ha'
    isplitl [Hu']; · iexact Hu'
    isplitl [HsL]; · iexact HsL
    iexact Hc3
  iintro Hfa
  iapply (SparseCore.wp_gatherFromWhole countersEmb 𝒱₀ (V d (cV L) (jV L)) none (hg := gathers_S100000x128_S32x128) (default : HIx 1)
      (wV).view.dmaCredit (hN' _) (by decide) (inb_list (F := F) ix d L hix)) $$ [Hb' Hw' HsR Hc4]
  · isplitl [Hb']; · iexact Hb'
    isplitl [Hw']; · iexact Hw'
    isplitl [HsR]; · iexact HsR
    iexact Hc4
  iintro Hfb
  sl_exec
  iapply (Transfers.wp_waitLocalO countersEmb 𝒱₀ (V d (cV L) (jV L)) none (default : HIx 1) (rfl : (uV).view.dmaCredit = _)) $$ [Hfa HO]
  · isplitl [Hfa]; · iexact Hfa
    isplitl [HO]; · iexact HO
    iapply (Transfers.MayWaits.elim (SemLoc.dma cc0_scratch3.sem)) $$ Hmw
  iintro ⟨⟨Hu', Ha', HsL⟩, Hc3, HO⟩
  sl_exec
  iapply (Transfers.wp_waitLocalO countersEmb 𝒱₀ (V d (cV L) (jV L)) none (default : HIx 1) (rfl : (wV).view.dmaCredit = _)) $$ [Hfb HO]
  · isplitl [Hfb]; · iexact Hfb
    isplitl [HO]; · iexact HO
    iapply (Transfers.MayWaits.elim (SemLoc.dma cc0_scratch4.sem)) $$ Hmw
  iintro ⟨⟨Hw', Hb', HsR⟩, Hc4, HO⟩
  ihave Hs' := (pointsTo_share (PosShare.mem_left_op_right fullShare)).2 $$ [HsL HsR]
  · isplitl [HsL] <;> iassumption
  sl_exec
  sl_step
  isplitl [Ha' Hb' Hl' Ho' Hp']
  · isplitl [Ha']; · iexact Ha'
    isplitl [Hb']; · iexact Hb'
    isplitl [Hl']; · iexact Hl'
    isplitl [Ho']
    · iapply (Entails.of_eq (block_pts d L (gat (m (aLoc d)) (ix d) : Buf (Elt F) (oLoc d)) (m (oLoc d)) (tile_body.sl.dma0_1 m ix d L hix fu)
        fun x => (congrFun (staged_u fu _) x).trans (payload_eq ix d L hix _ _ (read_aK d _) _ _ x))); iexact Ho'
    · iapply (Entails.of_eq (block_pts' d L (gat (m (bLoc d)) (ix d) : Buf (Elt F) (pLoc d)) (m (pLoc d)) (tile_body.sl.dma0_2 m ix d L hix fw)
        fun x => (congrFun (staged_w fw _) x).trans (payload_eq ix d L hix _ _ (read_bK d _) _ _ x))); iexact Hp'
  isplitl [Hs' Hu' Hw' Hbufs]
  · isplitl [Hs']; · iexists _; iexact Hs'
    isplitl [Hu']; · iexists _; iexact Hu'
    isplitl [Hw']; · iexists _; iexact Hw'
    iexact Hbufs
  isplitl [Hc0 Hc3 Hc4 Hc1 Hc2 Hsems]
  · isplitl [Hc0]; · iexact Hc0
    isplitl [Hc3]; · iexact Hc3
    isplitl [Hc4]; · iexact Hc4
    isplitl [Hc1]; · iexact Hc1
    isplitl [Hc2]; · iexact Hc2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation the launch asks of the tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          aV (Memref.isWhole_whole _) bV (Memref.isWhole_whole _) lV (Memref.isWhole_whole _) oV (Memref.isWhole_whole _) pV (Memref.isWhole_whole _)
          sV (Memref.isWhole_whole _) uV (Memref.isWhole_whole _) wV (Memref.isWhole_whole _) cc0_scratch3 cc0_scratch4 cc0_scoped0 cc0_scoped1 cc0_scoped2) ⟨⟩ c s := rfl

omit [FloatOps F] in
/-- A wait recorded at no call counts as one recorded at none or at this call. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) (hix : ∀ d j, (ix d j).toNat < 100000) : (K (F := F)).TileObl (D (F := F)) 𝒱 (P m ix) v₀ 0 := by
  intro d c i O W hO _ _
  simp only [show (P m ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m ix d (coordsV ⟨_, hci.1⟩ ⟨_, hci.2⟩) hF hix O W hO).trans (wp_mono frame _ _ fun _ => post_weaken)

end Tile

/-- A core's operands are its tasks', and its results theirs. -/
theorem vecSplit : (K (F := F)).VecSplit' (P m ix) 0 := by
  intro d c
  show (bigSep Finset.univ fun i : Fin 16 => goRes m ix d (blk c i)) ⊢ |={Set.univ}=> iprop(
      (bigSep Finset.univ fun i : Fin 16 => goRes m ix d (blk c i))
      ∗ ((bigSep Finset.univ fun i : Fin 16 => tdRes m ix d (blk c i)) -∗ bigSep Finset.univ fun i : Fin 16 => tdRes m ix d (blk c i)))
  iintro H; imodintro
  isplitl [H]; · iexact H
  iintro H; iexact H

end Cert.KernelIdeal.Gather

end
-- ==== Proof.AttnBodyIdeal.lean ====
/-
  The attention readout on the TensorCore, one block of eight graphs at a time: what the body computes for one graph
  (`attn`), what it leaves in its two result windows (`outI`, `outV`: eight such rows each) and the run of the body from
  the ten windows' buffers.
-/
module

public import proofs.«01_k».proof.Proof.GatherTileIdeal
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.KernelIdeal.Attn

open Cert.KernelIdeal Cert.KernelIdeal.Gen Cert.KernelIdeal.Gather

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## One graph -/

/-- The scores of a hundred nodes `X` for a query row `v`: the logistic of `X·Wu + bu + v`, times `We`. -/
def scores (Wu : FVec F S128x128 .f32) (bu : FVec F S1x128 .f32) (We : FVec F S128x1 .f32) (X : FVec F S100x128 .f32) (v : FVec F S1x128 .f32) : FVec F S100x1 .f32 :=
  matmul dot_S100x128_S128x1_S100x1_1_0_0_1_n_n none
    (logistic (addf (addf (matmul dot_S100x128_S128x128_S100x128_1_0_0_1_n_n none X Wu (constant S100x128 .f32 0x00000000#32))
      (broadcastTo S100x128 bu broadcasts_S1x128_S100x128)) (broadcastTo S100x128 v broadcasts_S1x128_S100x128)))
    We (constant S100x1 .f32 0x00000000#32)

/-- The largest of a hundred scores. -/
def top (e : FVec F S100x1 .f32) : F .f32 :=
  extractAt ![0, 0, 0] (shapeCast S1x1x1 (multiReduction .maximumf [1, 2] S1 (shapeCast S1x100x1 e shapeCasts_S100x1_S1x100x1)
    0xFF800000#32 reduces_S1x100x1_S1 (.inl rfl) rfl : FVec F S1 .f32) shapeCasts_S1_S1x1x1) inpos_S1x1x1_p0_0_0

/-- The sum of a hundred weights. -/
def tot (e : FVec F S100x1 .f32) : F .f32 :=
  extractAt ![0, 0, 0] (shapeCast S1x1x1 (multiReduction .add [1, 2] S1 (shapeCast S1x100x1 e shapeCasts_S100x1_S1x100x1)
    0x00000000#32 reduces_S1x100x1_S1 (.inl rfl) rfl : FVec F S1 .f32) shapeCasts_S1_S1x1x1) inpos_S1x1x1_p0_0_0

/-- The exponentials of scores above `m`. -/
def ups (e : FVec F S100x1 .f32) (m : F .f32) : FVec F S100x1 .f32 := exp (subf e (broadcast S100x1 m))

/-- The readout of a graph's two hundred nodes, given their scores. -/
def mix (X₁ X₂ : FVec F S100x128 .f32) (e₁ e₂ : FVec F S100x1 .f32) : FVec F S1x128 .f32 :=
  divf (addf (matmul dot_S100x1_S100x128_S1x128_0_0_1_1_n_n none (ups e₁ (Scalar.maximumf (top e₁) (top e₂))) X₁ (constant S1x128 .f32 0x00000000#32))
      (matmul dot_S100x1_S100x128_S1x128_0_0_1_1_n_n none (ups e₂ (Scalar.maximumf (top e₁) (top e₂))) X₂ (constant S1x128 .f32 0x00000000#32)))
    (broadcast S1x128 (Scalar.addf (tot (ups e₁ (Scalar.maximumf (top e₁) (top e₂)))) (tot (ups e₂ (Scalar.maximumf (top e₁) (top e₂))))))

/-- The readout of a graph for a query row. -/
def attn (Wu : FVec F S128x128 .f32) (bu : FVec F S1x128 .f32) (We : FVec F S128x1 .f32) (X₁ X₂ : FVec F S100x128 .f32) (v : FVec F S1x128 .f32) : FVec F S1x128 .f32 :=
  mix X₁ X₂ (scores Wu bu We X₁ v) (scores Wu bu We X₂ v)

/-- The eight query rows: the gathered rows times `Wv`. -/
def query (g : FVec F S8x128 .f32) (Wv : FVec F S128x128 .f32) : FVec F S8x128 .f32 :=
  matmul dot_S8x128_S128x128_S8x128_1_0_0_1_n_n none (shapeCast S8x128 g shapeCasts_S8x128_S8x128) Wv (constant S8x128 .f32 0x00000000#32)

/-! ## The two result windows -/

abbrev rSq : Rect S128x128 := Rect.unit (s := S128x128) ![0, 0] S128x128.size inb_S128x128_S128x128_0_0
abbrev rBu : Rect S1x128 := Rect.unit (s := S1x128) ![0, 0] S1x128.size inb_S1x128_S1x128_0_0
abbrev rWe : Rect S128x1 := Rect.unit (s := S128x1) ![0, 0] S128x1.size inb_S128x1_S128x1_0_0
abbrev rG : Rect S8x128 := Rect.unit (s := S8x128) ![0, 0] S8x128.size inb_S8x128_S8x128_0_0
abbrev rX0 : Rect S8x100x128 := Rect.unit (s := S8x100x128) ![0, 0, 0] S1x100x128.size inb_S8x100x128_S1x100x128_0_0_0
abbrev rO0 : Rect S8x128 := Rect.unit (s := S8x128) ![0, 0] S1x128.size inb_S8x128_S1x128_0_0
abbrev rX1 : Rect S8x100x128 := Rect.unit (s := S8x100x128) ![1, 0, 0] S1x100x128.size inb_S8x100x128_S1x100x128_1_0_0
abbrev rO1 : Rect S8x128 := Rect.unit (s := S8x128) ![1, 0] S1x128.size inb_S8x128_S1x128_1_0
abbrev rX2 : Rect S8x100x128 := Rect.unit (s := S8x100x128) ![2, 0, 0] S1x100x128.size inb_S8x100x128_S1x100x128_2_0_0
abbrev rO2 : Rect S8x128 := Rect.unit (s := S8x128) ![2, 0] S1x128.size inb_S8x128_S1x128_2_0
abbrev rX3 : Rect S8x100x128 := Rect.unit (s := S8x100x128) ![3, 0, 0] S1x100x128.size inb_S8x100x128_S1x100x128_3_0_0
abbrev rO3 : Rect S8x128 := Rect.unit (s := S8x128) ![3, 0] S1x128.size inb_S8x128_S1x128_3_0
abbrev rX4 : Rect S8x100x128 := Rect.unit (s := S8x100x128) ![4, 0, 0] S1x100x128.size inb_S8x100x128_S1x100x128_4_0_0
abbrev rO4 : Rect S8x128 := Rect.unit (s := S8x128) ![4, 0] S1x128.size inb_S8x128_S1x128_4_0
abbrev rX5 : Rect S8x100x128 := Rect.unit (s := S8x100x128) ![5, 0, 0] S1x100x128.size inb_S8x100x128_S1x100x128_5_0_0
abbrev rO5 : Rect S8x128 := Rect.unit (s := S8x128) ![5, 0] S1x128.size inb_S8x128_S1x128_5_0
abbrev rX6 : Rect S8x100x128 := Rect.unit (s := S8x100x128) ![6, 0, 0] S1x100x128.size inb_S8x100x128_S1x100x128_6_0_0
abbrev rO6 : Rect S8x128 := Rect.unit (s := S8x128) ![6, 0] S1x128.size inb_S8x128_S1x128_6_0
abbrev rX7 : Rect S8x100x128 := Rect.unit (s := S8x100x128) ![7, 0, 0] S1x100x128.size inb_S8x100x128_S1x100x128_7_0_0
abbrev rO7 : Rect S8x128 := Rect.unit (s := S8x128) ![7, 0] S1x128.size inb_S8x128_S1x128_7_0

section Out

variable (x0 x1 : Vec F S8x100x128 .f32) (xg : Vec F S8x128 .f32) (x4 : Vec F S128x128 .f32) (x5 : Vec F S1x128 .f32) (x6 : Vec F S128x128 .f32) (x7 : Vec F S128x1 .f32)

/-- The features of one graph of the block. -/
abbrev feat (x : Vec F S1x100x128 .f32) : FVec F S100x128 .f32 := shapeCast S100x128 x shapeCasts_S1x100x128_S100x128

/-- The row of graph `k` of the block, given its query row. -/
abbrev rowOut (X₁ X₂ : Vec F S1x100x128 .f32) (v : FVec F S1x128 .f32) : FVec F S1x128 .f32 :=
  attn (View.ld x4 rSq) (shapeCast S1x128 (View.ld x5 rBu) shapeCasts_S1x128_S1x128) (View.ld x7 rWe) (feat X₁) (feat X₂) v

/-- What the body leaves in a result window whose query rows come from `xg`: the eight rows it stores, last first. -/
def outOf : Vec F S8x128 .f32 :=
  View.canon [⟨rO7, rowOut x4 x5 x7 (View.ld x0 rX7) (View.ld x1 rX7) (extractStridedSlice S1x128 ![7, 0] (query (View.ld xg rG) (View.ld x6 rSq)) slices_S8x128_o7_0_S1x128)⟩,
    ⟨rO6, rowOut x4 x5 x7 (View.ld x0 rX6) (View.ld x1 rX6) (extractStridedSlice S1x128 ![6, 0] (query (View.ld xg rG) (View.ld x6 rSq)) slices_S8x128_o6_0_S1x128)⟩,
    ⟨rO5, rowOut x4 x5 x7 (View.ld x0 rX5) (View.ld x1 rX5) (extractStridedSlice S1x128 ![5, 0] (query (View.ld xg rG) (View.ld x6 rSq)) slices_S8x128_o5_0_S1x128)⟩,
    ⟨rO4, rowOut x4 x5 x7 (View.ld x0 rX4) (View.ld x1 rX4) (extractStridedSlice S1x128 ![4, 0] (query (View.ld xg rG) (View.ld x6 rSq)) slices_S8x128_o4_0_S1x128)⟩,
    ⟨rO3, rowOut x4 x5 x7 (View.ld x0 rX3) (View.ld x1 rX3) (extractStridedSlice S1x128 ![3, 0] (query (View.ld xg rG) (View.ld x6 rSq)) slices_S8x128_o3_0_S1x128)⟩,
    ⟨rO2, rowOut x4 x5 x7 (View.ld x0 rX2) (View.ld x1 rX2) (extractStridedSlice S1x128 ![2, 0] (query (View.ld xg rG) (View.ld x6 rSq)) slices_S8x128_o2_0_S1x128)⟩,
    ⟨rO1, rowOut x4 x5 x7 (View.ld x0 rX1) (View.ld x1 rX1) (extractStridedSlice S1x128 ![1, 0] (query (View.ld xg rG) (View.ld x6 rSq)) slices_S8x128_o1_0_S1x128)⟩,
    ⟨rO0, rowOut x4 x5 x7 (View.ld x0 rX0) (View.ld x1 rX0) (extractStridedSlice S1x128 ![0, 0] (query (View.ld xg rG) (View.ld x6 rSq)) slices_S8x128_o0_0_S1x128)⟩]

end Out

/-- The eight rows are the whole window. -/
theorem cover (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (y : S8x128.Idx) :
    ∃ pc ∈ ([⟨rO7, p0⟩, ⟨rO6, p1⟩, ⟨rO5, p2⟩, ⟨rO4, p3⟩, ⟨rO3, p4⟩, ⟨rO2, p5⟩, ⟨rO1, p6⟩, ⟨rO0, p7⟩] : List (View.Piece (Elt F) S8x128 .f32)), y ∈ pc.1.set :=
  View.cover_of_tiled [⟨rO7, p0⟩, ⟨rO6, p1⟩, ⟨rO5, p2⟩, ⟨rO4, p3⟩, ⟨rO3, p4⟩, ⟨rO2, p5⟩, ⟨rO1, p6⟩, ⟨rO0, p7⟩] S1x128.size (by rfl) y

/-! ## The body -/

set_option maxHeartbeats 2000000 in
/-- The body from the ten windows' buffers: the eight operands as they were, the two results at their rows. -/
theorem body_run (c : Dev nD) (E : Set ℕ) (i : grid1.Coords) (arg1 : Memref sig .tc .vmem S8x100x128 .f32) (harg1 : arg1.IsWhole) (arg2 : Memref sig .tc .vmem S8x100x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S8x128 .f32) (harg9 : arg9.IsWhole) (arg10 : Memref sig .tc .vmem S8x128 .f32) (harg10 : arg10.IsWhole) (x0 : Vec F S8x100x128 .f32) (x1 : Vec F S8x100x128 .f32) (x2 : Vec F S8x128 .f32) (x3 : Vec F S8x128 .f32) (x4 : Vec F S128x128 .f32) (x5 : Vec F S1x128 .f32) (x6 : Vec F S128x128 .f32) (x7 : Vec F S128x1 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ X, owns (c : Thread nD τ) arg9 fullShare X) ∗ (∃ X, owns (c : Thread nD τ) arg10 fullShare X)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outOf x0 x1 x2 x4 x5 x6 x7) ∗ owns (c : Thread nD τ) arg10 fullShare (outOf x0 x1 x3 x4 x5 x6 x7)) -∗ Q ⟨⟩))
      ⊢ wp frame (wpE (defs₀ (F := F)) 𝒱₀ c none) E (cc1__attn_body i arg1 harg1 arg2 harg2 arg3 harg3 arg4 harg4 arg5 harg5 arg6 harg6 arg7 harg7 arg8 harg8 arg9 harg9 arg10 harg10) Q := by
  simp only [cc1__attn_body_eq_skeleton]; unfold cc1__attn_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover _ _ _ _ _ _ _ _)).trans ?_
    rfl
  iexists _; isplitr
  swap; · iexact H9
  ipureintro
  refine (View.read_writes_eq_canon _ _ _ (cover _ _ _ _ _ _ _ _)).trans ?_
  rfl

end Cert.KernelIdeal.Attn
-- ==== Proof.AttnRegionIdeal.lean ====
/-
  The TensorCore region's proof data: what its ten windows' arrays hold when it is entered (`W`), what every window's
  buffer holds after the body at a point, the body's obligation, and the region as a segment entered from the arrays at
  `W` and left with the two results at `res0`, `res1`.
-/
module

public import proofs.«01_k».proof.Proof.AttnBodyIdeal
public import Idealize.ShloMosaic.Lib.Pipeline.RegionArrays

@[expose] public section

set_option maxRecDepth 16384

noncomputable section

namespace Cert.KernelIdeal.Attn

open Cert.KernelIdeal Cert.KernelIdeal.Gen Cert.KernelIdeal.Gather

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

variable (W : Dev nD → Valuation τ sig (Elt F))

/-! ## The windows' blocks -/

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The pairs the core may have recorded by now: none above the first call's levels. -/
def seen (c : Dev nD) : Set (SemLoc sig × HIx 1) := {p | (K (F := F)).lev ((c : Thread nD τ), p.1) p.2 ≤ 8}

/-- The region's proof data: nothing owed, no invariant of its own, the results' buffers at the body's rows. -/
def dats (_ : Fin 1) (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => outOf (iblk W c 0 t) (iblk W c 1 t) (iblk W c 2 t) (iblk W c 4 t) (iblk W c 5 t) (iblk W c 6 t) (iblk W c 7 t)
    | ⟨9, _⟩ => outOf (iblk W c 0 t) (iblk W c 1 t) (iblk W c 3 t) (iblk W c 4 t) (iblk W c 5 t) (iblk W c 6 t) (iblk W c 7 t)
  Φ _ := iprop(emp)
  q _ := fullShare
  owed _ := 0
  recorded _ := seen (F := F) c

theorem A_eq (c : Dev nD) (w : Fin cfg1.W) : (dats W 0 c).A w = W c (Proc.devRef .tc (Pipeline.arrRef spec1 w)) := by
  dsimp only [dats]

theorem after_0 (c : Dev nD) (t : Fin cfg1.N) : (dats W 0 c).after 0 t = iblk W c 0 t := by dsimp only [dats]
theorem after_1 (c : Dev nD) (t : Fin cfg1.N) : (dats W 0 c).after 1 t = iblk W c 1 t := by dsimp only [dats]
theorem after_2 (c : Dev nD) (t : Fin cfg1.N) : (dats W 0 c).after 2 t = iblk W c 2 t := by dsimp only [dats]
theorem after_3 (c : Dev nD) (t : Fin cfg1.N) : (dats W 0 c).after 3 t = iblk W c 3 t := by dsimp only [dats]
theorem after_4 (c : Dev nD) (t : Fin cfg1.N) : (dats W 0 c).after 4 t = iblk W c 4 t := by dsimp only [dats]
theorem after_5 (c : Dev nD) (t : Fin cfg1.N) : (dats W 0 c).after 5 t = iblk W c 5 t := by dsimp only [dats]
theorem after_6 (c : Dev nD) (t : Fin cfg1.N) : (dats W 0 c).after 6 t = iblk W c 6 t := by dsimp only [dats]
theorem after_7 (c : Dev nD) (t : Fin cfg1.N) : (dats W 0 c).after 7 t = iblk W c 7 t := by dsimp only [dats]
theorem after_8 (c : Dev nD) (t : Fin cfg1.N) : (dats W 0 c).after 8 t = outOf (iblk W c 0 t) (iblk W c 1 t) (iblk W c 2 t) (iblk W c 4 t) (iblk W c 5 t) (iblk W c 6 t) (iblk W c 7 t) := by dsimp only [dats]
theorem after_9 (c : Dev nD) (t : Fin cfg1.N) : (dats W 0 c).after 9 t = outOf (iblk W c 0 t) (iblk W c 1 t) (iblk W c 3 t) (iblk W c 4 t) (iblk W c 5 t) (iblk W c 6 t) (iblk W c 7 t) := by dsimp only [dats]

/-! Each operand's buffer holds its block when the body starts, fetched at this point or at an earlier one. -/

theorem before_0 (c : Dev nD) (t : Fin cfg1.N) (d) : (dats W 0 c).before 0 t d = iblk W c 0 t :=
  ((dats W 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg1.N) (d) : (dats W 0 c).before 1 t d = iblk W c 1 t :=
  ((dats W 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg1.N) (d) : (dats W 0 c).before 2 t d = iblk W c 2 t :=
  ((dats W 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg1.N) (d) : (dats W 0 c).before 3 t d = iblk W c 3 t :=
  ((dats W 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg1.N) (d) : (dats W 0 c).before 4 t d = iblk W c 4 t :=
  ((dats W 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg1.N) (d) : (dats W 0 c).before 5 t d = iblk W c 5 t :=
  ((dats W 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem before_6 (c : Dev nD) (t : Fin cfg1.N) (d) : (dats W 0 c).before 6 t d = iblk W c 6 t :=
  ((dats W 0 c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)
theorem before_7 (c : Dev nD) (t : Fin cfg1.N) (d) : (dats W 0 c).before 7 t d = iblk W c 7 t :=
  ((dats W 0 c).before_in_eq_fetched 7 rfl (fun _ => rfl) (fun _ _ _ => rfl)
    (fun t => by rw [after_7]; unfold Dat.blockOf iblk; rw [A_eq]; try rfl) t d).trans (by unfold Dat.fetched Dat.blockOf iblk; rw [A_eq]; try rfl)

/-! ## The body at a point -/

/-- What the body is called with at point `t`, window by window, -/
def atCall (c : Dev nD) (t : Fin cfg1.N) : sProp 𝕄 :=
  iprop((dats W 0 c).Φ t.castSucc ∗ (dats W 0 c).owesAt (none : HIx 1) t.castSucc
    ∗ (∃ d, owns (c : Thread nD τ) (st1_0 t) fullShare ((dats W 0 c).before 0 t d))
    ∗ (∃ d, owns (c : Thread nD τ) (st1_1 t) fullShare ((dats W 0 c).before 1 t d))
    ∗ (∃ d, owns (c : Thread nD τ) (st1_2 t) fullShare ((dats W 0 c).before 2 t d))
    ∗ (∃ d, owns (c : Thread nD τ) (st1_3 t) fullShare ((dats W 0 c).before 3 t d))
    ∗ (∃ d, owns (c : Thread nD τ) (st1_4 t) fullShare ((dats W 0 c).before 4 t d))
    ∗ (∃ d, owns (c : Thread nD τ) (st1_5 t) fullShare ((dats W 0 c).before 5 t d))
    ∗ (∃ d, owns (c : Thread nD τ) (st1_6 t) fullShare ((dats W 0 c).before 6 t d))
    ∗ (∃ d, owns (c : Thread nD τ) (st1_7 t) fullShare ((dats W 0 c).before 7 t d))
    ∗ (∃ d, owns (c : Thread nD τ) (st1_8 t) fullShare ((dats W 0 c).before 8 t d))
    ∗ (∃ d, owns (c : Thread nD τ) (st1_9 t) fullShare ((dats W 0 c).before 9 t d)))

/-- and what it returns. -/
def atReturn (c : Dev nD) (t : Fin cfg1.N) : sProp 𝕄 :=
  iprop((dats W 0 c).Φ t.succ ∗ (dats W 0 c).owesAt (none : HIx 1) t.succ
    ∗ owns (c : Thread nD τ) (st1_0 t) fullShare ((dats W 0 c).after 0 t)
    ∗ owns (c : Thread nD τ) (st1_1 t) fullShare ((dats W 0 c).after 1 t)
    ∗ owns (c : Thread nD τ) (st1_2 t) fullShare ((dats W 0 c).after 2 t)
    ∗ owns (c : Thread nD τ) (st1_3 t) fullShare ((dats W 0 c).after 3 t)
    ∗ owns (c : Thread nD τ) (st1_4 t) fullShare ((dats W 0 c).after 4 t)
    ∗ owns (c : Thread nD τ) (st1_5 t) fullShare ((dats W 0 c).after 5 t)
    ∗ owns (c : Thread nD τ) (st1_6 t) fullShare ((dats W 0 c).after 6 t)
    ∗ owns (c : Thread nD τ) (st1_7 t) fullShare ((dats W 0 c).after 7 t)
    ∗ owns (c : Thread nD τ) (st1_8 t) fullShare ((dats W 0 c).after 8 t)
    ∗ owns (c : Thread nD τ) (st1_9 t) fullShare ((dats W 0 c).after 9 t))

theorem body_at (c : Dev nD) (t : Fin cfg1.N) :
    atCall W c t ⊢ wp frame (wpE (defs₀ (F := F)) 𝒱₀ c none) Set.univ (bodyAt1 t) (fun _ => atReturn W c t) := by
  unfold atCall atReturn bodyAt1
  simp only [before_0, before_1, before_2, before_3, before_4, before_5, before_6, before_7]
  rw [show (dats W 0 c).Φ t.succ = (dats W 0 c).Φ t.castSucc from rfl,
    show (dats W 0 c).owesAt (none : HIx 1) t.succ = (dats W 0 c).owesAt (none : HIx 1) t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ (grid1.coords t) _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row_eq (t : Fin cfg1.N) : defs₀ (F := F) .tc cfg1.body (cfg1.bodyArgs t (cfg1.slots t)) = bodyAt1 t := by
  unfold defs₀; rfl

theorem body_obligation (c : Dev nD) : BodyObligation (dats (F := F) W 0 c) (defs₀ (F := F)) 𝒱₀ (none : HIx 1) Set.univ := fun t => by
  rw [bigSep_W1, bigSep_W1, row_eq]
  exact triple_restated (body_at W c t) rfl .rfl fun _ => .rfl

/-! ## The region -/

/-- The two results' arrays when the region is left. -/
def res0 (c : Dev nD) : S1000x128.Idx → Elt F .f32 := (dats W 0 c).arrAt 8 cfg1.N
def res1 (c : Dev nD) : S1000x128.Idx → Elt F .f32 := (dats W 0 c).arrAt 9 cfg1.N

/-- The buffers when the region is left. -/
def left (c : Dev nD) : Valuation τ sig (Elt F) :=
  Function.update (Function.update (W c) (Proc.devRef .tc main_v8_0) (res0 W c)) (Proc.devRef .tc main_v8_1) (res1 W c)

abbrev adm : (p : Fin 1) → (pcfgs (F := F) p).Adm := fun p => (cfgs p).toPCfg_adm

/-- The core's dues while it owes nothing, its recorded pairs within `seen`. -/
abbrev dues (c : Dev nD) : sProp 𝕄 := Pipeline.owesWithin c (0 : CellTallies nD τ sig (HIx 1)) (seen (F := F) c)

theorem left_v8_1 (c : Dev nD) : left W c (Proc.devRef .tc main_v8_1) = res1 W c := Function.update_self _ _ _
theorem left_v8_0 (c : Dev nD) : left W c (Proc.devRef .tc main_v8_0) = res0 W c := by
  have h : (main_v8_0 : Ref sig .tc) ≠ main_v8_1 := by decide
  exact (Function.update_of_ne (fun e => h (Proc.devRef_injective _ e)) _ _).trans (Function.update_self _ _ _)

theorem left_in (c : Dev nD) (w : Fin cfg1.W) (h : (cfg1.win w).isOut = false) (h0 : Pipeline.arrRef spec1 w ≠ main_v8_0) (h1 : Pipeline.arrRef spec1 w ≠ main_v8_1) :
    (dats W 0 c).arrAt w cfg1.N = left W c (Proc.devRef .tc (Pipeline.arrRef spec1 w)) := by
  unfold left
  rw [Function.update_of_ne (fun e => h1 (Proc.devRef_injective _ e)), Function.update_of_ne (fun e => h0 (Proc.devRef_injective _ e))]
  exact ((dats W 0 c).arrAt_in w h _).trans (A_eq W c w)

theorem left_arr (c : Dev nD) : ∀ w : Fin cfg1.W, (dats W 0 c).arrAt w cfg1.N = left W c (Proc.devRef .tc (Pipeline.arrRef spec1 w))
  | ⟨0, _⟩ => left_in W c 0 rfl (by decide) (by decide)
  | ⟨1, _⟩ => left_in W c 1 rfl (by decide) (by decide)
  | ⟨2, _⟩ => left_in W c 2 rfl (by decide) (by decide)
  | ⟨3, _⟩ => left_in W c 3 rfl (by decide) (by decide)
  | ⟨4, _⟩ => left_in W c 4 rfl (by decide) (by decide)
  | ⟨5, _⟩ => left_in W c 5 rfl (by decide) (by decide)
  | ⟨6, _⟩ => left_in W c 6 rfl (by decide) (by decide)
  | ⟨7, _⟩ => left_in W c 7 rfl (by decide) (by decide)
  | ⟨8, _⟩ => (left_v8_0 W c).symm
  | ⟨9, _⟩ => (left_v8_1 W c).symm

theorem kit : Pipeline.PLaunchFacts (nD := nD) (τ := τ) (pcfgs (F := F)) 0 := launch1.toP

/-- The arrays at entry and at exit, as buffers held. -/
theorem arrays_in (c : Dev nD) : ((dats W 0 c).arrays ((dats W 0 c).arrAt · 0) : sProp 𝕄) = StableHlo.held (c.tc : Thread nD τ) (Pipeline.arrRefs spec1) (W c) :=
  Pipeline.arrays_held (pcfgs (F := F)) adm (dats W) 0 kit c ((dats W 0 c).share_full fun _ => rfl) _ (W c) (A_eq W c)
theorem arrays_out (c : Dev nD) : ((dats W 0 c).arrays ((dats W 0 c).arrAt · cfg1.N) : sProp 𝕄) = StableHlo.held (c.tc : Thread nD τ) (Pipeline.arrRefs spec1) (left W c) :=
  Pipeline.arrays_held (pcfgs (F := F)) adm (dats W) 0 kit c ((dats W 0 c).share_full fun _ => rfl) _ (left W c) (left_arr W c)

/-- The loop's own waits are at the lowest level. -/
theorem bound_sub (c : Dev nD) (t : Fin (cfg1.N + 1)) : (dats W 0 c).bound (none : HIx 1) t ⊆ seen (F := F) c := by
  rintro p (hp | ⟨w, s, rfl⟩)
  · exact hp
  · exact Nat.zero_le _

def region : Pipeline.RegionSeg (pcfgs (F := F)) adm (dats W) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(StableHlo.held (c.tc : Thread nD τ) (Pipeline.arrRefs spec1) (W c) ∗ dues c)
  post c := iprop(StableHlo.held (c.tc : Thread nD τ) (Pipeline.arrRefs spec1) (left W c) ∗ dues c)
  X _ := iprop(emp)
  Y _ := iprop(emp)
  Z _ := iprop(emp)
  hentry c := by
    rw [Pipeline.ownSems0_none, Pipeline.prefHeld_of_none _ rfl, arrays_in]
    iintro ⟨⟨Ha, HO⟩, -, -⟩
    imodintro
    isplitl [Ha]; · iexact Ha
    isplitr; · iempintro
    isplitl [HO]
    · icases HO with ⟨%S, %hS, HO⟩
      iexists S; isplitr; · ipureintro; exact hS.trans Set.subset_union_left
      iexact HO
    isplitr <;> iempintro
  hin c := by
    rw [show (dats W 0 c).Φ 0 = iprop(emp) from rfl]
    iintro -; iempintro
  hout c := by
    rw [show (dats W 0 c).Φ (Fin.last _) = iprop(emp) from rfl, Pipeline.ownSems0_none, scopedRest1_eq]
    iintro -
    isplitr; · iempintro
    isplitr <;> iempintro
  hexit c := by
    rw [show ((dats W 0 c).arrays ((dats W 0 c).arrAt · (Pipeline.pin (pcfgs (F := F)) adm 0).N) : sProp 𝕄) = _ from arrays_out W c]
    iintro ⟨Ha, HO, -, -⟩
    imodintro
    isplitl [Ha]; · iexact Ha
    iapply (Pipeline.owesWithin_mono c 0 (bound_sub W c _)); iexact HO

theorem region_pre (c : Dev nD) : (region W).pre c = iprop(StableHlo.held (c.tc : Thread nD τ) (Pipeline.arrRefs spec1) (W c) ∗ dues c) := rfl
theorem region_post (c : Dev nD) : (region W).post c = iprop(StableHlo.held (c.tc : Thread nD τ) (Pipeline.arrRefs spec1) (left W c) ∗ dues c) := rfl

/-- The region's call, from the arrays at `W` to the arrays at `left W`. -/
theorem region_run (c : Dev nD) (Q : PUnit → sProp 𝕄) :
    iprop((iprop(boundary (c.tc : Thread nD τ) ∗ StableHlo.held (c.tc : Thread nD τ) (Pipeline.arrRefs spec1) (left W c) ∗ dues c) -∗ Q ⟨⟩)
        ∗ boundary (c.tc : Thread nD τ) ∗ (StableHlo.held (c.tc : Thread nD τ) (Pipeline.arrRefs spec1) (W c) ∗ dues c) ∗ levAts (K (F := F)).L (K (F := F)).lev
        ∗ Pipeline.cellsGhost (cfgs) EP 0 c ∗ Pipeline.toksInit (cfgs) EP 0 c)
      ⊢ wp frame (wpE (D (F := F)) 𝒱 (c.tc : Thread nD τ) none) Set.univ (.op (.customCall (Pipeline.entry 0) ()) .ret) Q := by
  iintro ⟨Hk, Hb, Hp, Hl, Hg, Ht⟩
  iapply (Pipeline.RegionSeg.wp (pcfgs (F := F)) adm (dats W) (none : HIx 1) cellOf_inj EP (defs₀ (F := F)) 𝒱₀ (K (F := F)).L (K (F := F)).lev (region W) c none
    (fun _ h => nomatch h) (k := .ret) Q)
  isplitl [Hk]
  · iintro ⟨Hb, Hp⟩
    rw [wp_ret]
    imodintro
    ihave Hp' := (Entails.of_eq (region_post W c)) $$ Hp
    iapply Hk
    isplitl [Hb]; · iexact Hb
    iexact Hp'
  isplitl [Hb]; · iexact Hb
  isplitl [Hp]; · iapply (Entails.of_eq (region_pre W c).symm); iexact Hp
  isplitl [Hl]; · iexact Hl
  isplitl [Hg]; · iexact Hg
  iexact Ht

end Cert.KernelIdeal.Attn

end
-- ==== Proof.KernelRunIdeal.lean ====
/-
  The whole program: @main on the TensorCore — the list padded to 1024 entries, the gather on the SparseCores, the
  tables regrouped by graph and the gathered rows cut back to 1000, the readout region, and the two results reshaped —
  from the launch memory to what every buffer holds at the end (`V5`), and the run of all threads.
-/
module

public import proofs.«01_k».proof.Proof.AttnRegionIdeal
public import Idealize.ShloMosaic.Lib.SparseCore.Quiescent
public import Idealize.ShloMosaic.Lib.StableHlo.Run
public import Idealize.ShloMosaic.Lib.Pipeline.Frame

@[expose] public section

set_option maxRecDepth 16384

noncomputable section

namespace Cert.KernelIdeal.Run

open Cert.KernelIdeal Cert.KernelIdeal.Gen Cert.KernelIdeal.Gather Cert.KernelIdeal.Attn

open Idealize.ShloMosaic Idealize.ShloMosaic.TcCoe Idealize.ShloMosaic.Tactic
open Idealize.ShloMosaic.SparseCore.Cfg (HIx)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## @main as three lines of array operations around the two calls -/

abbrev opsA : List (HloOp τ sig (Elt F)) :=
  [StableHlo.nullary main_c (constantI S_ 32 0#32),
   StableHlo.unary main_c main_v0 (broadcastInDim S24 ![] bcast_S_S24 : (⟨S_, .i32⟩ : BufTy).Contents (Elt F) → (⟨S24, .i32⟩ : BufTy).Contents (Elt F)),
   StableHlo.binary main_arg2 main_v0 main_v1 ((fun a b => concatenate S1024 0 [⟨S1000, a⟩, ⟨S24, b⟩] concatenates_S1000_S24_S1024_d0) : (⟨S1000, .i32⟩ : BufTy).Contents (Elt F) → (⟨S24, .i32⟩ : BufTy).Contents (Elt F) → (⟨S1024, .i32⟩ : BufTy).Contents (Elt F))]

abbrev opsB : List (HloOp τ sig (Elt F)) :=
  [StableHlo.reshape main_arg0 main_v3 (rfl : (.f32 : EltTy) = .f32) shapeCasts_S100000x128_S1000x100x128,
   StableHlo.reshape main_arg1 main_v4 (rfl : (.f32 : EltTy) = .f32) shapeCasts_S100000x128_S1000x100x128,
   StableHlo.reshape main_arg4 main_v5 (rfl : (.f32 : EltTy) = .f32) shapeCasts_S128_S1x128,
   StableHlo.unary main_v2_0 main_v6 ((extractStridedSlice S1000x128 ![0, 0] · slices_S1024x128_S1000x128_0_0) : (⟨S1024x128, .f32⟩ : BufTy).Contents (Elt F) → (⟨S1000x128, .f32⟩ : BufTy).Contents (Elt F)),
   StableHlo.unary main_v2_1 main_v7 ((extractStridedSlice S1000x128 ![0, 0] · slices_S1024x128_S1000x128_0_0) : (⟨S1024x128, .f32⟩ : BufTy).Contents (Elt F) → (⟨S1000x128, .f32⟩ : BufTy).Contents (Elt F))]

abbrev opsC : List (HloOp τ sig (Elt F)) :=
  [StableHlo.unary main_v8_0 main_v9 (broadcastInDim S1000x1x128 ![0, 2] bcast_S1000x128_S1000x1x128_0_2 : (⟨S1000x128, .f32⟩ : BufTy).Contents (Elt F) → (⟨S1000x1x128, .f32⟩ : BufTy).Contents (Elt F)),
   StableHlo.unary main_v8_1 main_v10 (broadcastInDim S1000x1x128 ![0, 2] bcast_S1000x128_S1000x1x128_0_2 : (⟨S1000x128, .f32⟩ : BufTy).Contents (Elt F) → (⟨S1000x1x128, .f32⟩ : BufTy).Contents (Elt F))]

theorem main_eq (d : Dev nD) : main (F := F) d = (StableHlo.seq opsA >>= fun _ => sc.run d 0 >>= fun _ => StableHlo.seq opsB >>= fun _ =>
    Prog.lift (.customCall (SparseCore.inner (Pipeline.entry 0)) ()) >>= fun _ => StableHlo.seq opsC >>= fun _ => pure ⟨⟩) := by
  simp only [main, StableHlo.seq, bind_assoc, pure_bind]

theorem freshA : ∀ op ∈ opsA (F := F), op.fresh = ∅ := by
  intro op h
  simp only [List.mem_cons, List.not_mem_nil, or_false] at h
  rcases h with rfl | rfl | rfl <;> rfl
theorem freshB : ∀ op ∈ opsB (F := F), op.fresh = ∅ := by
  intro op h
  simp only [List.mem_cons, List.not_mem_nil, or_false] at h
  rcases h with rfl | rfl | rfl | rfl | rfl <;> rfl
theorem freshC : ∀ op ∈ opsC (F := F), op.fresh = ∅ := by
  intro op h
  simp only [List.mem_cons, List.not_mem_nil, or_false] at h
  rcases h with rfl | rfl <;> rfl
theorem inA : ∀ op ∈ opsA (F := F), op.bufs ⊆ Pipeline.ucRefs τ sig := by
  intro op h
  simp only [List.mem_cons, List.not_mem_nil, or_false] at h
  rcases h with rfl | rfl | rfl
  · exact Pipeline.sub_ucRefs _ (StableHlo.nullary_bufs_sub ..)
  · exact Pipeline.sub_ucRefs _ (StableHlo.unary_bufs_sub ..)
  · exact Pipeline.sub_ucRefs _ (StableHlo.binary_bufs_sub ..)
theorem inB : ∀ op ∈ opsB (F := F), op.bufs ⊆ Pipeline.ucRefs τ sig := by
  intro op h
  simp only [List.mem_cons, List.not_mem_nil, or_false] at h
  rcases h with rfl | rfl | rfl | rfl | rfl
  · exact Pipeline.sub_ucRefs _ (StableHlo.reshape_bufs_sub ..)
  · exact Pipeline.sub_ucRefs _ (StableHlo.reshape_bufs_sub ..)
  · exact Pipeline.sub_ucRefs _ (StableHlo.reshape_bufs_sub ..)
  · exact Pipeline.sub_ucRefs _ (StableHlo.unary_bufs_sub ..)
  · exact Pipeline.sub_ucRefs _ (StableHlo.unary_bufs_sub ..)
theorem inC : ∀ op ∈ opsC (F := F), op.bufs ⊆ Pipeline.ucRefs τ sig := by
  intro op h
  simp only [List.mem_cons, List.not_mem_nil, or_false] at h
  rcases h with rfl | rfl
  · exact Pipeline.sub_ucRefs _ (StableHlo.unary_bufs_sub ..)
  · exact Pipeline.sub_ucRefs _ (StableHlo.unary_bufs_sub ..)

/-! ## What every buffer holds along the way -/

variable (m : (ℓ : Loc nD τ sig) → Buf (Elt F) ℓ) (ρ : Dev nD → PrngReg)

/-- A buffer of the TensorCore, as a device buffer. -/
abbrev td (r : Ref sig .tc) : DevRef τ sig := Proc.devRef Proc.tc r

/-- The list padded with zeros to 1024 entries. -/
def padded (x : S1000.Idx → BitVec 32) : S1024.Idx → BitVec 32 :=
  concatenate S1024 0 [⟨S1000, x⟩, ⟨S24, broadcastInDim S24 ![] bcast_S_S24 (constantI S_ 32 0#32)⟩] concatenates_S1000_S24_S1024_d0
/-- The padded list of the launch memory. -/
def ix (d : Dev nD) : S1024.Idx → BitVec 32 := padded (m ((SparseCore.T d).loc main_arg2))

def V0 (d : Dev nD) : Valuation τ sig (Elt F) := fun b => m (d, b)
def V1 (d : Dev nD) : Valuation τ sig (Elt F) := StableHlo.after opsA (V0 m d)
def V2 (d : Dev nD) : Valuation τ sig (Elt F) :=
  Function.update (Function.update (V1 m d) (td main_v2_0) (gat (m (aLoc d)) (ix m d))) (td main_v2_1) (gat (m (bLoc d)) (ix m d))
def V3 (d : Dev nD) : Valuation τ sig (Elt F) := StableHlo.after opsB (V2 m d)
def V4 (d : Dev nD) : Valuation τ sig (Elt F) := left (V3 m) d
def V5 (d : Dev nD) : Valuation τ sig (Elt F) := StableHlo.after opsC (V4 m d)

theorem V1_keep (d : Dev nD) (r : Ref sig .tc) (h : r ∉ [main_c, main_v0, main_v1]) : V1 m d (td r) = m (d, (td r)) :=
  StableHlo.after_of_writes_sub (W := [main_c, main_v0, main_v1]) opsA (V0 m d) (StableHlo.forall_writes_sub_of_map rfl) h
theorem V1_list (d : Dev nD) : V1 m d (td main_v1) = ix m d := by
  unfold V1; after_results; rfl
theorem V2_keep (d : Dev nD) (r : Ref sig .tc) (h : r ∉ [main_v2_0, main_v2_1]) : V2 m d (td r) = V1 m d (td r) := by
  simp only [List.mem_cons, List.not_mem_nil, or_false, not_or] at h
  unfold V2
  rw [Function.update_of_ne (fun e => h.2 (Proc.devRef_injective _ e)), Function.update_of_ne (fun e => h.1 (Proc.devRef_injective _ e))]
theorem V2_v2_1 (d : Dev nD) : V2 m d (td main_v2_1) = gat (m (bLoc d)) (ix m d) := Function.update_self _ _ _
theorem V2_v2_0 (d : Dev nD) : V2 m d (td main_v2_0) = gat (m (aLoc d)) (ix m d) := by
  have h : (main_v2_0 : Ref sig .tc) ≠ main_v2_1 := by decide
  exact (Function.update_of_ne (fun e => h (Proc.devRef_injective _ e)) _ _).trans (Function.update_self _ _ _)
theorem V3_keep (d : Dev nD) (r : Ref sig .tc) (h : r ∉ [main_v3, main_v4, main_v5, main_v6, main_v7]) : V3 m d (td r) = V2 m d (td r) :=
  StableHlo.after_of_writes_sub (W := [main_v3, main_v4, main_v5, main_v6, main_v7]) opsB (V2 m d) (StableHlo.forall_writes_sub_of_map rfl) h
theorem V4_keep (d : Dev nD) (r : Ref sig .tc) (h : r ∉ [main_v8_0, main_v8_1]) : V4 m d (td r) = V3 m d (td r) := by
  simp only [List.mem_cons, List.not_mem_nil, or_false, not_or] at h
  unfold V4 left
  rw [Function.update_of_ne (fun e => h.2 (Proc.devRef_injective _ e)), Function.update_of_ne (fun e => h.1 (Proc.devRef_injective _ e))]
theorem V5_keep (d : Dev nD) (r : Ref sig .tc) (h : r ∉ [main_v9, main_v10]) : V5 m d (td r) = V4 m d (td r) :=
  StableHlo.after_of_writes_sub (W := [main_v9, main_v10]) opsC (V4 m d) (StableHlo.forall_writes_sub_of_map rfl) h

/-- An argument ends as it was launched. -/
theorem V5_arg (d : Dev nD) (r : Ref sig .tc) (h5 : r ∉ [main_v9, main_v10]) (h4 : r ∉ [main_v8_0, main_v8_1])
    (h3 : r ∉ [main_v3, main_v4, main_v5, main_v6, main_v7]) (h2 : r ∉ [main_v2_0, main_v2_1]) (h1 : r ∉ [main_c, main_v0, main_v1]) :
    V5 m d (td r) = m (d, (td r)) :=
  (V5_keep m d r h5).trans ((V4_keep m d r h4).trans ((V3_keep m d r h3).trans ((V2_keep m d r h2).trans (V1_keep m d r h1))))

theorem V5_v9 (d : Dev nD) : V5 m d (td main_v9) = broadcastInDim S1000x1x128 ![0, 2] bcast_S1000x128_S1000x1x128_0_2 (res0 (V3 m) d) := by
  unfold V5; after_results
  exact congrArg _ (left_v8_0 (V3 m) d)
theorem V5_v10 (d : Dev nD) : V5 m d (td main_v10) = broadcastInDim S1000x1x128 ![0, 2] bcast_S1000x128_S1000x1x128_0_2 (res1 (V3 m) d) := by
  unfold V5; after_results
  exact congrArg _ (left_v8_1 (V3 m) d)

/-! ## The gather call's operands, whole and in blocks -/

/-- The five buffers of the gather call. -/
def scRefs : Finset (DevRef τ sig) := {(td main_arg0), (td main_arg1), (td main_v1), (td main_v2_0), (td main_v2_1)}
theorem scRefs_sub : scRefs ⊆ Pipeline.ucRefs τ sig := by decide

theorem held_sc (d : Dev nD) (V : Valuation τ sig (Elt F)) :
    (StableHlo.held (d.tc : Thread nD τ) scRefs V : sProp 𝕄)
      = iprop((aLoc d ↦{fullShare} V (td main_arg0)) ∗ (bLoc d ↦{fullShare} V (td main_arg1)) ∗ (lLoc d ↦{fullShare} V (td main_v1))
          ∗ (oLoc d ↦{fullShare} V (td main_v2_0)) ∗ (pLoc d ↦{fullShare} V (td main_v2_1))) := by
  unfold StableHlo.held scRefs
  rw [SparseCore.bigSep_insert' (by decide), SparseCore.bigSep_insert' (by decide), SparseCore.bigSep_insert' (by decide), SparseCore.bigSep_insert' (by decide), bigSep_singleton]

omit [FloatOps F] in
theorem rows_o (d : Dev nD) (f : Buf (Elt F) (oLoc d)) : (oLoc d ↦{fullShare} f : sProp 𝕄) = bigSep Finset.univ fun k : Fin 32 => oLoc d ↦[blockSet k]{fullShare} f := by
  rw [← pointsTo_biUnion Finset.univ (ℓ := oLoc d) blockSet (fun i _ j _ h => Rect.part_disjoint odiv h), Rect.biUnion_part odiv]; try rfl
omit [FloatOps F] in
theorem rows_p (d : Dev nD) (f : Buf (Elt F) (pLoc d)) : (pLoc d ↦{fullShare} f : sProp 𝕄) = bigSep Finset.univ fun k : Fin 32 => pLoc d ↦[blockSet k]{fullShare} f := by
  rw [← pointsTo_biUnion Finset.univ (ℓ := pLoc d) blockSet (fun i _ j _ h => Rect.part_disjoint odiv h), Rect.biUnion_part odiv]; try rfl

/-- The five whole, as thirty-two parts: a share each of what is read, a block each of what is written. -/
theorem parts (d : Dev nD) (fa : Buf (Elt F) (aLoc d)) (fb : Buf (Elt F) (bLoc d)) (fl : Buf (Elt F) (lLoc d)) (fo : Buf (Elt F) (oLoc d)) (fp : Buf (Elt F) (pLoc d)) :
    (iprop((aLoc d ↦{fullShare} fa) ∗ (bLoc d ↦{fullShare} fb) ∗ (lLoc d ↦{fullShare} fl) ∗ (oLoc d ↦{fullShare} fo) ∗ (pLoc d ↦{fullShare} fp)) : sProp 𝕄)
      = bigSep Finset.univ fun k : Fin 32 => iprop((aLoc d ↦{qk k} fa) ∗ (bLoc d ↦{qk k} fb) ∗ (lLoc d ↦{qk k} fl)
          ∗ (oLoc d ↦[blockSet k]{fullShare} fo) ∗ (pLoc d ↦[blockSet k]{fullShare} fp)) := by
  rw [bigSep_sep', bigSep_sep', bigSep_sep', bigSep_sep', rows_o, rows_p, pointsTo_leaves Finset.univ fa 5 fullShare, pointsTo_leaves Finset.univ fb 5 fullShare,
    pointsTo_leaves Finset.univ fl 5 fullShare]
  rfl

/-- Task `k`'s core and subcore. -/
def taskEquiv : Fin 2 × Fin 16 ≃ Fin 32 where
  toFun p := blk p.1 p.2
  invFun k := (⟨k.val % 2, by omega⟩, ⟨k.val / 2, by omega⟩)
  left_inv p := by ext <;> simp only [blk] <;> omega
  right_inv k := by ext; simp only [blk]; omega

/-- The tasks, core by core. -/
theorem by_core (Φ : Fin 32 → sProp 𝕄) :
    (bigSep Finset.univ fun c : Fin 2 => bigSep Finset.univ fun i : Fin 16 => Φ (blk c i)) = bigSep Finset.univ Φ := by
  rw [bigSep_univ_equiv taskEquiv Φ, ← Finset.univ_product_univ, SparseCore.bigSep_product]; rfl

theorem st_eq (d : Dev nD) : (bigSep Finset.univ fun c : Fin ((K (F := F)).nCore 0) => (P m (ix m)).st 0 d c)
    = (StableHlo.held (d.tc : Thread nD τ) scRefs (V1 m d) : sProp 𝕄) := by
  rw [held_sc, V1_list, V1_keep m d main_arg0 (by decide), V1_keep m d main_arg1 (by decide), V1_keep m d main_v2_0 (by decide), V1_keep m d main_v2_1 (by decide), parts]
  exact by_core (fun k => goRes m (ix m) d k)
theorem dn_eq (d : Dev nD) : (bigSep Finset.univ fun c : Fin ((K (F := F)).nCore 0) => (P m (ix m)).dn 0 d c)
    = (StableHlo.held (d.tc : Thread nD τ) scRefs (V2 m d) : sProp 𝕄) := by
  rw [held_sc, V2_v2_0, V2_v2_1, V2_keep m d main_v1 (by decide), V1_list, V2_keep m d main_arg0 (by decide), V2_keep m d main_arg1 (by decide),
    V1_keep m d main_arg0 (by decide), V1_keep m d main_arg1 (by decide), parts]
  exact by_core (fun k => tdRes m (ix m) d k)

/-- Around the gather call: the rest of the buffers stand. -/
theorem V2_rest (d : Dev nD) : (StableHlo.held (d.tc : Thread nD τ) (Pipeline.ucRefs τ sig \ scRefs) (V1 m d) : sProp 𝕄)
    = StableHlo.held (d.tc : Thread nD τ) (Pipeline.ucRefs τ sig \ scRefs) (V2 m d) := by
  refine StableHlo.held_congr _ fun b hb => ?_
  have hn := (Finset.mem_sdiff.mp hb).2
  have h1 : b ≠ td main_v2_1 := fun e => hn (by rw [e]; decide)
  have h0 : b ≠ td main_v2_0 := fun e => hn (by rw [e]; decide)
  unfold V2
  rw [Function.update_of_ne h1, Function.update_of_ne h0]

/-- After the list's operations, the buffers split into the gather call's and the rest. -/
theorem split_A (d : Dev nD) : (StableHlo.held (d.tc : Thread nD τ) (Pipeline.ucRefs τ sig) (StableHlo.after opsA (V0 m d)) : sProp 𝕄)
    = iprop(StableHlo.held (d.tc : Thread nD τ) scRefs (V1 m d) ∗ StableHlo.held (d.tc : Thread nD τ) (Pipeline.ucRefs τ sig \ scRefs) (V1 m d)) :=
  StableHlo.held_sub_split (d.tc : Thread nD τ) scRefs_sub (V1 m d)

theorem arr_sub : Pipeline.arrRefs (τ := τ) spec1 ⊆ Pipeline.ucRefs τ sig := Pipeline.arrRefs_sub_ucRefs spec1 (by decide)

/-- After the regrouping, the buffers split into the region's and the rest. -/
theorem split_B (d : Dev nD) : (StableHlo.held (d.tc : Thread nD τ) (Pipeline.ucRefs τ sig) (StableHlo.after opsB (V2 m d)) : sProp 𝕄)
    = iprop(StableHlo.held (d.tc : Thread nD τ) (Pipeline.arrRefs spec1) (V3 m d) ∗ StableHlo.held (d.tc : Thread nD τ) (Pipeline.ucRefs τ sig \ Pipeline.arrRefs spec1) (V3 m d)) :=
  StableHlo.held_sub_split (d.tc : Thread nD τ) arr_sub (V3 m d)
/-- After the region, the two parts are the whole again. -/
theorem join_C (d : Dev nD) : (iprop(StableHlo.held (d.tc : Thread nD τ) (Pipeline.arrRefs spec1) (left (V3 m) d)
      ∗ StableHlo.held (d.tc : Thread nD τ) (Pipeline.ucRefs τ sig \ Pipeline.arrRefs spec1) (V4 m d)) : sProp 𝕄)
    = StableHlo.held (d.tc : Thread nD τ) (Pipeline.ucRefs τ sig) (V4 m d) :=
  (StableHlo.held_sub_split (d.tc : Thread nD τ) arr_sub (V4 m d)).symm
theorem fin_eq (d : Dev nD) : (StableHlo.held (d.tc : Thread nD τ) (Pipeline.ucRefs τ sig) (StableHlo.after opsC (V4 m d)) : sProp 𝕄)
    = StableHlo.held (d.tc : Thread nD τ) (Pipeline.ucRefs τ sig) (V5 m d) := rfl

/-- Around the region: the rest of the buffers stand. -/
theorem V4_rest (d : Dev nD) : (StableHlo.held (d.tc : Thread nD τ) (Pipeline.ucRefs τ sig \ Pipeline.arrRefs spec1) (V3 m d) : sProp 𝕄)
    = StableHlo.held (d.tc : Thread nD τ) (Pipeline.ucRefs τ sig \ Pipeline.arrRefs spec1) (V4 m d) := by
  refine StableHlo.held_congr _ fun b hb => ?_
  have hn := (Finset.mem_sdiff.mp hb).2
  have h1 : b ≠ td main_v8_1 := fun e => hn (by rw [e]; decide)
  have h0 : b ≠ td main_v8_0 := fun e => hn (by rw [e]; decide)
  unfold V4 left
  rw [Function.update_of_ne h1, Function.update_of_ne h0]

/-! ## @main -/

/-- After the last call the TensorCore owes nothing, and has waited on nothing above the calls' levels. -/
theorem otc_one (d : Dev nD) : (K (F := F)).Otc d 1 = 0 := by
  unfold SparseCore.Cfg.Otc
  exact Finset.sum_eq_zero fun q _ => if_neg (by omega)

/-- What the TensorCore holds beside its dues once the one call is done. -/
def rest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄) = iprop(dues (F := F) d ∗ rest d) := by
  unfold SparseCore.Cfg.tcSt
  rw [otc_one]
  rfl

theorem tcSt_done (d : Dev nD) : ((K (F := F)).tcSt EH d ((0 : Fin 1).val + 1) : sProp 𝕄) = iprop(dues (F := F) d ∗ rest d) := tcSt_one d

/-- The region's ghost state on device `d`. -/
abbrev G (d : Dev nD) : sProp 𝕄 := iprop(Pipeline.cellsGhost (cfgs) EP 0 d ∗ Pipeline.toksInit (cfgs) EP 0 d)
/-- What a device ends with. -/
abbrev FIN (d : Dev nD) : sProp 𝕄 := StableHlo.held (d.tc : Thread nD τ) (Pipeline.ucRefs τ sig) (V5 m d)

set_option backward.isDefEq.respectTransparency.types false in
theorem hmain (κ : GSem nD τ sig → ℕ) (d : Dev nD) :
    iprop((K (F := F)).ctx EH (P m (ix m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) (Pipeline.ucRefs τ sig) (V0 m d) from
    Pipeline.unscopedBufs_held d (V0 m d)]
  iintro ⟨#Hctx, Hst, ⟨Hb, Hh, Hts, -⟩, Hg, Ht⟩
  iapply (StableHlo.wp_seq 𝒱 none Set.univ d (Pipeline.ucRefs τ sig) _ opsA inA freshA (V0 m d)) $$ [Hb Hh]
  · isplitl [Hb] <;> iassumption
  iintro ⟨Hb, Hh⟩
  ihave Hh := (Entails.of_eq (split_A m d)) $$ Hh
  icases Hh with ⟨Hs, Hr⟩
  rw [wp_bind]
  iapply ((K (F := F)).wp_run (D (F := F)) 𝒱 (EH := EH) (P := P m (ix m)) κ d 0) $$ [-]
  isplitr; · iexact Hctx
  isplitl [Hst]; · iexact Hst
  isplitl [Hs]
  · iapply (Entails.of_eq (st_eq m d).symm); iexact Hs
  iintro ⟨Hst, Hdn⟩
  ihave Hs := (Entails.of_eq (dn_eq m d)) $$ Hdn
  ihave Hr := (Entails.of_eq (V2_rest m d)) $$ Hr
  ihave Hh := (Entails.of_eq (StableHlo.held_sub_split (d.tc : Thread nD τ) scRefs_sub (V2 m d)).symm) $$ [Hs Hr]
  · isplitl [Hs] <;> iassumption
  iapply (StableHlo.wp_seq 𝒱 none Set.univ d (Pipeline.ucRefs τ sig) _ opsB inB freshB (V2 m d)) $$ [Hb Hh]
  · isplitl [Hb] <;> iassumption
  iintro ⟨Hb, Hh⟩
  ihave Hh := (Entails.of_eq (split_B m d)) $$ Hh
  icases Hh with ⟨Hs, Hr⟩
  ihave Hst' := (Entails.of_eq (tcSt_done d)) $$ Hst
  icases Hst' with ⟨Hd, Hrest⟩
  rw [wp_bind]
  iapply ((K (F := F)).wp_liftProg (D (F := F)) 𝒱 (SparseCore.T d) Set.univ none (.op (.customCall (Pipeline.entry 0) ()) .ret))
  iapply (region_run (V3 m) d)
  isplitr [Hb Hs Hd Hg Ht]
  · iintro ⟨Hb, Hs, Hd⟩
    ihave Hr := (Entails.of_eq (V4_rest m d)) $$ Hr
    ihave Hh := (Entails.of_eq (join_C m d)) $$ [Hs Hr]
    · isplitl [Hs] <;> iassumption
    iapply (StableHlo.wp_seq 𝒱 none Set.univ d (Pipeline.ucRefs τ sig) _ opsC inC freshC (V4 m d)) $$ [Hb Hh]
    · isplitl [Hb] <;> iassumption
    iintro ⟨Hb, Hh⟩
    rw [wp_pure]
    imodintro
    isplitl [Hd Hrest]
    · iapply (Entails.of_eq (tcSt_one d).symm)
      isplitl [Hd] <;> iassumption
    isplitl [Hh]; · iapply (Entails.of_eq (fin_eq m d)); iexact Hh
    isplitl [Hb] <;> iassumption
  isplitl [Hb]; · iexact Hb
  isplitl [Hs Hd]; · isplitl [Hs] <;> iassumption
  isplitr; · iapply (SparseCore.Cfg.ctx_levAts κ); iexact Hctx
  isplitl [Hg] <;> iassumption

/-! ## The launch element -/

/-- The gather call's handshakes, the region's rounds, no transfer of this proof's own. -/
def u₀ : UU := (initOf (K (F := F)).hsCells (K (F := F)).hsToks, (initOf (Pipeline.cells (cfgs) cellOf_inj) (Pipeline.launchToks (cfgs) cellOf_inj), 1))

/-- The region's rounds, found in the right half of the launch element. -/
theorem ep_eq (x : UP) : (BI.own (((Emb.inl : Emb UP (UP × Counters)).trans (embR : Emb (UP × Counters) 𝕄)) x) : sProp 𝕄) = BI.own ((EP : Emb UP 𝕄) x) := rfl

/-- One region: what is held for every region is what is held for it. -/
theorem one_region (Φ : Fin 1 → Dev nD → sProp 𝕄) :
    (bigSep Finset.univ fun c : Dev nD => bigSep Finset.univ fun p : Fin 1 => Φ p c) ⊢ bigSep Finset.univ fun c : Dev nD => Φ 0 c :=
  Entails.of_eq (bigSep_congr fun _ _ => bigSep_univ_of_subsingleton (0 : Fin 1))
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (ix m)).x q thr) := by
  unfold u₀
  iintro Hu
  ihave H := (ownU_pair (initOf (K (F := F)).hsCells (K (F := F)).hsToks)
    ((initOf (Pipeline.cells (cfgs) cellOf_inj) (Pipeline.launchToks (cfgs) cellOf_inj), 1) : UP × Counters)) $$ Hu
  icases H with ⟨HH, HR⟩
  ihave H := (own_pair_emb (embR : Emb (UP × Counters) 𝕄) (initOf (Pipeline.cells (cfgs) cellOf_inj) (Pipeline.launchToks (cfgs) cellOf_inj)) (1 : Counters)) $$ HR
  icases H with ⟨HP, -⟩
  ihave HP := (Entails.of_eq (ep_eq _)) $$ HP
  imod (Pipeline.fund_ghost (cfgs) EP cellOf_inj) $$ HP with ⟨Hc, Ht⟩
  imodintro
  isplitl [HH]; · iexact HH
  isplitl [Hc Ht]
  · rw [bigSep_sep']
    isplitl [Hc]
    · iapply (one_region (fun p c => Pipeline.cellsGhost cfgs EP p c)); iexact Hc
    · iapply (one_region (fun p c => Pipeline.toksInit cfgs EP p c)); iexact Ht
  rw [show (bigSep Finset.univ fun thr : Thread nD τ => bigSep Finset.univ fun q : Fin 1 => (P (F := F) m (ix m)).x q thr) = bigSep Finset.univ fun _ => iprop(emp) from
    bigSep_congr fun _ _ => bigSep_univ_of_subsingleton (0 : Fin 1), emps]
  iempintro

/-! ## The run -/

/-- At the end every unscoped buffer of the TensorCore holds what `V5` says. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  iintro ⟨H, HSI⟩
  iapply (SI_pointsTo_bufs_agree (st := s') (c := d) (qs := fun _ => fullShare) (F := V5 m d) (Pipeline.ucRefs τ sig))
  isplitl [HSI]; · iexact HSI
  iapply (Entails.of_eq (StableHlo.held.eq_1 (d.tc : Thread nD τ) (Pipeline.ucRefs τ sig) (V5 m d))); iexact H

theorem run_all [∀ e, Nonempty (Elt F e)] (hix : ∀ d j, (ix m d j).toNat < 100000) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = V5 m d b) ∧ r.2.sem = fun _ => 0) :=
  SparseCore.Cfg.θ_run_sc_quiescent (K := K (F := F)) (D := D (F := F)) (𝒱 := 𝒱) (EH := EH) (P := P m (ix m)) (A := ∅) facts v₀
    (fun q hq => match q with | 0 => nomatch hq)
    (fun q _ => match q with | 0 => tileObl m (ix m) facts hix)
    (fun q _ => match q with | 0 => SparseCore.Cfg.VecSplit.of_plain (vecSplit m (ix m)))
    m ρ main G (FIN m) (u₀ (F := F)) (sep_elim_left.trans (hu₀ m)) (hmain m ρ) (fq m) (hfin m) _ (fun _ h hz => ⟨h, hz⟩)

end Cert.KernelIdeal.Run

end
-- ==== Proof.Ranges.lean ====
/-
  What the two preconditions say: every entry of the list of nodes is below 100000, and (the second one) every
  weight of the last matrix is a real number. The list padded with zeros is in range too.
-/
module

public import proofs.«01_k».proof.Proof.KernelRun
public import proofs.«01_k».proof.Proof.KernelRunIdeal
public import proofs.«01_k».proof.Proof.Gen.Pre_nodes_in_range
public import proofs.«01_k».proof.Pre_nodes_in_range_and_finite
public import Idealize.ShloMosaic.Lib.ReduceAll
public import Idealize.ShloMosaic.Lib.Pointwise

@[expose] public section

noncomputable section

/-- The shape conditions the second precondition states. -/
instance Cert.Pre_nodes_in_range_and_finite.own_facts : Cert.Pre_nodes_in_range_and_finite.Facts where
  bcast_S_S1000 := by decide
  reducesTo_S1000_S_d0 := by decide
  h_S_ := by decide
  bcast_S_S128x1 := by decide
  reducesTo_S128x1_S_d0_1 := by decide

namespace Cert.Ranges

open Idealize.ShloMosaic

theorem andi_ofBool (p q : Bool) : IntOp.andi (BitVec.ofBool p) (BitVec.ofBool q) = BitVec.ofBool (p && q) := by
  cases p <;> cases q <;> decide
theorem ofBool_eq_one (p : Bool) : BitVec.ofBool p = 1#1 ↔ p = true := by cases p <;> decide
theorem andi_one (a b : BitVec 1) (h : IntOp.andi a b = 1#1) : a = 1#1 ∧ b = 1#1 := by
  rcases BitVec.eq_zero_or_eq_one a with rfl | rfl <;> rcases BitVec.eq_zero_or_eq_one b with rfl | rfl <;>
    simp_all [IntOp.andi]

/-- A word that is, as a signed number, at least zero and below 100000. -/
theorem word_range (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The index of a rank-zero array. -/
theorem unit_idx : Subsingleton (⟨0, ![]⟩ : Shape).Idx := ⟨fun a b => funext fun i => i.elim0⟩

variable {F : FTy → Type} [FloatOps F]

/-- The first precondition, read: every node is below 100000. -/
theorem nodes (x0 x1 : FVec F ⟨2, ![100000, 128]⟩ .f32) (x2 : IVec ⟨1, ![1000]⟩ 32) (x3 : FVec F ⟨2, ![128, 128]⟩ .f32) (x4 : FVec F ⟨1, ![128]⟩ .f32)
    (x5 : FVec F ⟨2, ![128, 128]⟩ .f32) (x6 : FVec F ⟨2, ![128, 1]⟩ .f32)
    (h : Cert.Pre_nodes_in_range.fn x0 x1 x2 x3 x4 x5 x6 = fun _ => 1#1) (i : (⟨1, ![1000]⟩ : Shape).Idx) : (x2 i).toNat < 100000 := by
  haveI := unit_idx
  have e := congrFun h (fun a => a.elim0)
  simp only [Cert.Pre_nodes_in_range.fn] at e
  exact word_range _ (Host.reduce_andi_all _ _ _ _ _ e i)

/-- The second precondition, read at the list. -/
theorem nodes' (x0 x1 : FVec F ⟨2, ![100000, 128]⟩ .f32) (x2 : IVec ⟨1, ![1000]⟩ 32) (x3 : FVec F ⟨2, ![128, 128]⟩ .f32) (x4 : FVec F ⟨1, ![128]⟩ .f32)
    (x5 : FVec F ⟨2, ![128, 128]⟩ .f32) (x6 : FVec F ⟨2, ![128, 1]⟩ .f32)
    (h : Cert.Pre_nodes_in_range_and_finite.fn x0 x1 x2 x3 x4 x5 x6 = fun _ => 1#1) (i : (⟨1, ![1000]⟩ : Shape).Idx) : (x2 i).toNat < 100000 := by
  haveI := unit_idx
  have e := congrFun h (fun a => a.elim0)
  simp only [Cert.Pre_nodes_in_range_and_finite.fn] at e
  exact word_range _ (Host.reduce_andi_all _ _ _ _ _ (andi_one _ _ e).1 i)

/-- The second precondition, read at the last matrix: every entry is a real number. -/
theorem weights (x0 x1 : FVec Ideal ⟨2, ![100000, 128]⟩ .f32) (x2 : IVec ⟨1, ![1000]⟩ 32) (x3 : FVec Ideal ⟨2, ![128, 128]⟩ .f32) (x4 : FVec Ideal ⟨1, ![128]⟩ .f32)
    (x5 : FVec Ideal ⟨2, ![128, 128]⟩ .f32) (x6 : FVec Ideal ⟨2, ![128, 1]⟩ .f32)
    (h : Cert.Pre_nodes_in_range_and_finite.fn x0 x1 x2 x3 x4 x5 x6 = fun _ => 1#1) (i : (⟨2, ![128, 1]⟩ : Shape).Idx) :
    (x6 i : EReal) ≠ ⊤ ∧ (x6 i : EReal) ≠ ⊥ := by
  haveI := unit_idx
  have e := congrFun h (fun a => a.elim0)
  simp only [Cert.Pre_nodes_in_range_and_finite.fn] at e
  have e2 := Host.reduce_andi_all _ _ _ _ _ (andi_one _ _ e).2 i
  pointwise at e2
  have htop : Ideal.ofBits .f32 0x7F800000#32 = ⊤ := by simp [Ideal.ofBits, Ideal.ieee]
  rw [htop, ofBool_eq_one, decide_eq_true_eq] at e2
  constructor
  · intro hx
    rw [hx] at e2
    exact absurd e2 (by simp [FloatOps.absf])
  · intro hx
    rw [hx] at e2
    exact absurd e2 (by simp [FloatOps.absf])

theorem padded_range (x : IVec ⟨1, ![1000]⟩ 32) (h : ∀ i, (x i).toNat < 100000) (j : Cert.Kernel.S1024.Idx) : (Cert.Kernel.Run.padded x j).toNat < 100000 := by
  unfold Cert.Kernel.Run.padded
  refine concatenate_forall (P := fun v : BitVec 32 => v.toNat < 100000) _ _ _ _ ?_ j
  intro p hp i
  simp only [List.mem_cons, List.not_mem_nil, or_false] at hp
  rcases hp with rfl | rfl
  · exact h i
  · exact (Nat.succ_pos 99999 : 0 < 100000)
theorem padded_range' (x : IVec ⟨1, ![1000]⟩ 32) (h : ∀ i, (x i).toNat < 100000) (j : Cert.KernelIdeal.S1024.Idx) : (Cert.KernelIdeal.Run.padded x j).toNat < 100000 :=
  padded_range x h j

end Cert.Ranges

end
-- ==== Proof.Frames.lean ====
/-
  Every program runs to its end with its arguments unchanged and every semaphore counter at zero.
-/
module

public import proofs.«01_k».proof.Defs
public import proofs.«01_k».proof.Proof.Ranges
public import proofs.«01_k».proof.Proof.Gen.ReferenceIdeal
public import proofs.«01_k».proof.Proof.Gen.ReferenceIdeal.Run

@[expose] public section

set_option maxRecDepth 16384

noncomputable section

namespace Cert.Frames

open Idealize.ShloMosaic Idealize.SL.Sem

theorem frame_kernel : Cert.quiescent_Kernel := fun m ρ hpre =>
  (θ_run Cert.Kernel.defs _ _).mono (fun r h => ⟨fun c =>
      ⟨(h.1 c _ (by decide : Cert.Kernel.Run.td Cert.Kernel.main_arg0 ∈ _)).trans (Cert.Kernel.Run.V5_arg m c Cert.Kernel.main_arg0 (by decide) (by decide) (by decide) (by decide) (by decide)),
      (h.1 c _ (by decide : Cert.Kernel.Run.td Cert.Kernel.main_arg1 ∈ _)).trans (Cert.Kernel.Run.V5_arg m c Cert.Kernel.main_arg1 (by decide) (by decide) (by decide) (by decide) (by decide)),
      (h.1 c _ (by decide : Cert.Kernel.Run.td Cert.Kernel.main_arg2 ∈ _)).trans (Cert.Kernel.Run.V5_arg m c Cert.Kernel.main_arg2 (by decide) (by decide) (by decide) (by decide) (by decide)),
      (h.1 c _ (by decide : Cert.Kernel.Run.td Cert.Kernel.main_arg3 ∈ _)).trans (Cert.Kernel.Run.V5_arg m c Cert.Kernel.main_arg3 (by decide) (by decide) (by decide) (by decide) (by decide)),
      (h.1 c _ (by decide : Cert.Kernel.Run.td Cert.Kernel.main_arg4 ∈ _)).trans (Cert.Kernel.Run.V5_arg m c Cert.Kernel.main_arg4 (by decide) (by decide) (by decide) (by decide) (by decide)),
      (h.1 c _ (by decide : Cert.Kernel.Run.td Cert.Kernel.main_arg5 ∈ _)).trans (Cert.Kernel.Run.V5_arg m c Cert.Kernel.main_arg5 (by decide) (by decide) (by decide) (by decide) (by decide)),
      (h.1 c _ (by decide : Cert.Kernel.Run.td Cert.Kernel.main_arg6 ∈ _)).trans (Cert.Kernel.Run.V5_arg m c Cert.Kernel.main_arg6 (by decide) (by decide) (by decide) (by decide) (by decide))⟩, h.2⟩)
    (Cert.Kernel.Run.run_all (F := Bits) m ρ fun d j => Cert.Ranges.padded_range _ (Cert.Ranges.nodes _ _ _ _ _ _ _ (hpre d)) j)

variable (m : (ℓ : Loc Cert.KernelIdeal.nD Cert.KernelIdeal.τ Cert.KernelIdeal.sig) → Buf (Elt Ideal) ℓ) (ρ : Dev Cert.KernelIdeal.nD → PrngReg)

/-- The idealized kernel's run, read at its arguments, its two results and the counters. -/
theorem run_ideal (hn : ∀ (d : Dev Cert.KernelIdeal.nD) j, (m ((SparseCore.T d).loc Cert.KernelIdeal.main_arg2) j).toNat < 100000) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_v9) = Cert.KernelIdeal.Run.V5 m c (Cert.KernelIdeal.Run.td Cert.KernelIdeal.main_v9)
      ∧ r.2.mem ((c.tc : Thread Cert.KernelIdeal.nD Cert.KernelIdeal.τ).loc Cert.KernelIdeal.main_v10) = Cert.KernelIdeal.Run.V5 m c (Cert.KernelIdeal.Run.td Cert.KernelIdeal.main_v10)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun r h => ⟨fun c =>
      ⟨h.1 c _ (by decide : Cert.KernelIdeal.Run.td Cert.KernelIdeal.main_v9 ∈ _),
      h.1 c _ (by decide : Cert.KernelIdeal.Run.td Cert.KernelIdeal.main_v10 ∈ _),
      (h.1 c _ (by decide : Cert.KernelIdeal.Run.td Cert.KernelIdeal.main_arg0 ∈ _)).trans (Cert.KernelIdeal.Run.V5_arg m c Cert.KernelIdeal.main_arg0 (by decide) (by decide) (by decide) (by decide) (by decide)),
      (h.1 c _ (by decide : Cert.KernelIdeal.Run.td Cert.KernelIdeal.main_arg1 ∈ _)).trans (Cert.KernelIdeal.Run.V5_arg m c Cert.KernelIdeal.main_arg1 (by decide) (by decide) (by decide) (by decide) (by decide)),
      (h.1 c _ (by decide : Cert.KernelIdeal.Run.td Cert.KernelIdeal.main_arg2 ∈ _)).trans (Cert.KernelIdeal.Run.V5_arg m c Cert.KernelIdeal.main_arg2 (by decide) (by decide) (by decide) (by decide) (by decide)),
      (h.1 c _ (by decide : Cert.KernelIdeal.Run.td Cert.KernelIdeal.main_arg3 ∈ _)).trans (Cert.KernelIdeal.Run.V5_arg m c Cert.KernelIdeal.main_arg3 (by decide) (by decide) (by decide) (by decide) (by decide)),
      (h.1 c _ (by decide : Cert.KernelIdeal.Run.td Cert.KernelIdeal.main_arg4 ∈ _)).trans (Cert.KernelIdeal.Run.V5_arg m c Cert.KernelIdeal.main_arg4 (by decide) (by decide) (by decide) (by decide) (by decide)),
      (h.1 c _ (by decide : Cert.KernelIdeal.Run.td Cert.KernelIdeal.main_arg5 ∈ _)).trans (Cert.KernelIdeal.Run.V5_arg m c Cert.KernelIdeal.main_arg5 (by decide) (by decide) (by decide) (by decide) (by decide)),
      (h.1 c _ (by decide : Cert.KernelIdeal.Run.td Cert.KernelIdeal.main_arg6 ∈ _)).trans (Cert.KernelIdeal.Run.V5_arg m c Cert.KernelIdeal.main_arg6 (by decide) (by decide) (by decide) (by decide) (by decide))⟩, h.2⟩)
    (Cert.KernelIdeal.Run.run_all (F := Ideal) m ρ fun d j => Cert.Ranges.padded_range' _ (hn d) j)

theorem frame_ideal : Cert.quiescent_KernelIdeal := fun m ρ hpre =>
  (θ_run Cert.KernelIdeal.defs _ _).mono (fun _ h => ⟨fun c => (h.1 c).2.2, h.2⟩)
    (run_ideal m ρ fun d => Cert.Ranges.nodes _ _ _ _ _ _ _ (hpre d))

theorem frame_ideal' : Cert.quiescent_KernelIdeal_pre_nodes_in_range_and_finite := fun m ρ hpre =>
  (θ_run Cert.KernelIdeal.defs _ _).mono (fun _ h => ⟨fun c => (h.1 c).2.2, h.2⟩)
    (run_ideal m ρ fun d => Cert.Ranges.nodes' _ _ _ _ _ _ _ (hpre d))

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_reference' : Cert.quiescent_ReferenceIdeal_pre_nodes_in_range_and_finite := fun m ρ _ =>
  frame_reference m ρ trivial

end Cert.Frames

end
-- ==== Proof.KernelValue.lean ====
/-
  The kernel's attention body read at one graph and one lane, over the extended reals.
-/
module

public import proofs.«01_k».proof.Proof.KernelRunIdeal
public import Idealize.ShloMosaic.Lib.Pointwise
public import Idealize.ShloMosaic.Lib.Pipeline.Value

@[expose] public section

set_option maxRecDepth 16384

noncomputable section

namespace Cert.KernelIdeal.Val

open Cert.KernelIdeal Cert.KernelIdeal.Gen Cert.KernelIdeal.Gather Cert.KernelIdeal.Attn Idealize.ShloMosaic

/-! ## One graph in plain numbers -/

/-- The score of node `k` of a graph whose features are `X` and whose query is `q`. -/
def sc (X : Fin 100 → Fin 128 → EReal) (q : Fin 128 → EReal) (wu : Fin 128 → Fin 128 → EReal) (b w : Fin 128 → EReal) (k : Fin 100) : EReal :=
  ∑ h : Fin 128, Ideal.logistic ((∑ j : Fin 128, X k j * wu j h) + b h + q h) * w h

/-- The greatest of a hundred scores. -/
def mx (e : Fin 100 → EReal) : EReal := (Finset.univ : Finset (Fin 100)).fold max ⊥ e

/-- The softmax-weighted sum of two hundred rows, at one lane, as the kernel orders it. -/
def blend (e₁ e₂ x₁ x₂ : Fin 100 → EReal) : EReal :=
  Ideal.div ((∑ k, Ideal.exp (e₁ k - max (mx e₁) (mx e₂)) * x₁ k) + ∑ k, Ideal.exp (e₂ k - max (mx e₁) (mx e₂)) * x₂ k)
    ((∑ k, Ideal.exp (e₁ k - max (mx e₁) (mx e₂))) + ∑ k, Ideal.exp (e₂ k - max (mx e₁) (mx e₂)))

/-! ## The body's parts -/

theorem scores_apply (Wu : FVec Ideal S128x128 .f32) (bu : FVec Ideal S1x128 .f32) (We : FVec Ideal S128x1 .f32) (X : FVec Ideal S100x128 .f32) (v : FVec Ideal S1x128 .f32) (k : Fin 100) :
    scores Wu bu We X v (ix2 k 0) = sc (fun k j => X (ix2 k j)) (fun h => v (ix2 0 h)) (fun j h => Wu (ix2 j h)) (fun h => bu (ix2 0 h)) (fun h => We (ix2 h 0)) k := by
  pointwise [scores, sc]

theorem top_eq (e : FVec Ideal S100x1 .f32) : top e = mx fun k => e (ix2 k 0) := by
  have hb : Ideal.ofBits .f32 0xFF800000#32 = ⊥ := by simp [Ideal.ofBits, Ideal.ieee]
  pointwise [top]
  rw [hb]
  exact le_antisymm
    (Finset.sup_le (f := fun x : Fin 100 × Fin 1 => e (ix2 x.1 0)) fun x _ => Finset.le_sup (f := fun k : Fin 100 => e (ix2 k 0)) (Finset.mem_univ x.1))
    (Finset.sup_le (f := fun k : Fin 100 => e (ix2 k 0)) fun k _ => Finset.le_sup (f := fun x : Fin 100 × Fin 1 => e (ix2 x.1 0)) (Finset.mem_univ (k, 0)))

theorem tot_eq (e : FVec Ideal S100x1 .f32) : tot e = ∑ k : Fin 100, e (ix2 k 0) := by
  pointwise [tot]
  simp

theorem ups_apply (e : FVec Ideal S100x1 .f32) (m : EReal) (k : Fin 100) : ups (F := Ideal) e m (ix2 k 0) = Ideal.exp (e (ix2 k 0) - m) := by
  pointwise [ups]

theorem mix_apply (X₁ X₂ : FVec Ideal S100x128 .f32) (e₁ e₂ : FVec Ideal S100x1 .f32) (l : Fin 128) :
    mix X₁ X₂ e₁ e₂ (ix2 0 l)
      = Ideal.div ((∑ k : Fin 100, ups e₁ (Scalar.maximumf (top e₁) (top e₂)) (ix2 k 0) * X₁ (ix2 k l)) + ∑ k : Fin 100, ups e₂ (Scalar.maximumf (top e₁) (top e₂)) (ix2 k 0) * X₂ (ix2 k l))
          (tot (ups e₁ (Scalar.maximumf (top e₁) (top e₂))) + tot (ups e₂ (Scalar.maximumf (top e₁) (top e₂)))) := by
  pointwise [mix]

theorem query_apply (g : FVec Ideal S8x128 .f32) (Wv : FVec Ideal S128x128 .f32) (r : Fin 8) (h : Fin 128) :
    query g Wv (ix2 r h) = ∑ j : Fin 128, g (ix2 r j) * Wv (ix2 j h) := by
  pointwise [query]

theorem attn_apply (Wu : FVec Ideal S128x128 .f32) (bu : FVec Ideal S1x128 .f32) (We : FVec Ideal S128x1 .f32) (X₁ X₂ : FVec Ideal S100x128 .f32) (v : FVec Ideal S1x128 .f32) (l : Fin 128) :
    attn Wu bu We X₁ X₂ v (ix2 0 l)
      = blend (sc (fun k j => X₁ (ix2 k j)) (fun h => v (ix2 0 h)) (fun j h => Wu (ix2 j h)) (fun h => bu (ix2 0 h)) (fun h => We (ix2 h 0)))
          (sc (fun k j => X₂ (ix2 k j)) (fun h => v (ix2 0 h)) (fun j h => Wu (ix2 j h)) (fun h => bu (ix2 0 h)) (fun h => We (ix2 h 0)))
          (fun k => X₁ (ix2 k l)) (fun k => X₂ (ix2 k l)) := by
  unfold attn
  have hm (a b : EReal) : Scalar.maximumf (F := Ideal) (φ := .f32) a b = max a b := rfl
  rw [mix_apply]
  simp only [tot_eq, ups_apply, top_eq, scores_apply, hm]
  rfl

/-! ## The eight rows of a block -/

section Rows

variable (x0 x1 : Vec Ideal S8x100x128 .f32) (xg : Vec Ideal S8x128 .f32) (x4 : Vec Ideal S128x128 .f32) (x5 : Vec Ideal S1x128 .f32) (x6 : Vec Ideal S128x128 .f32) (x7 : Vec Ideal S128x1 .f32)

/-- Row `r` of the block, in plain numbers. -/
def rowVal (r : Fin 8) (l : Fin 128) : EReal :=
  blend (sc (fun k j => x0 (ix3 r k j)) (fun h => ∑ j : Fin 128, xg (ix2 r j) * x6 (ix2 j h)) (fun j h => x4 (ix2 j h)) (fun h => x5 (ix2 0 h)) (fun h => x7 (ix2 h 0)))
    (sc (fun k j => x1 (ix3 r k j)) (fun h => ∑ j : Fin 128, xg (ix2 r j) * x6 (ix2 j h)) (fun j h => x4 (ix2 j h)) (fun h => x5 (ix2 0 h)) (fun h => x7 (ix2 h 0)))
    (fun k => x0 (ix3 r k l)) (fun k => x1 (ix3 r k l))

/-- The stored row, when the two feature rows and the query row loaded are those of row `r`. -/
theorem rowOut_apply (r : Fin 8) (l : Fin 128) (X₁ X₂ : Vec Ideal S1x100x128 .f32) (v : FVec Ideal S1x128 .f32)
    (h₁ : ∀ k j, X₁ (ix3 0 k j) = x0 (ix3 r k j)) (h₂ : ∀ k j, X₂ (ix3 0 k j) = x1 (ix3 r k j))
    (hv : ∀ h, v (ix2 0 h) = ∑ j : Fin 128, xg (ix2 r j) * x6 (ix2 j h)) :
    rowOut x4 x5 x7 X₁ X₂ v (ix2 0 l) = rowVal x0 x1 xg x4 x5 x6 x7 r l := by
  have e4 (j h : Fin 128) : View.ld x4 rSq (ix2 j h) = x4 (ix2 j h) := by pointwise
  have e5 (h : Fin 128) : shapeCast S1x128 (View.ld x5 rBu) shapeCasts_S1x128_S1x128 (ix2 0 h) = x5 (ix2 0 h) := by pointwise
  have e7 (h : Fin 128) : View.ld x7 rWe (ix2 h 0) = x7 (ix2 h 0) := by pointwise
  have f₁ (k : Fin 100) (j : Fin 128) : feat X₁ (ix2 k j) = x0 (ix3 r k j) := by
    rw [← h₁]; pointwise [feat]
  have f₂ (k : Fin 100) (j : Fin 128) : feat X₂ (ix2 k j) = x1 (ix3 r k j) := by
    rw [← h₂]; pointwise [feat]
  unfold rowVal
  refine (attn_apply _ _ _ _ _ _ _).trans ?_
  simp only [e4, e5, e7, f₁, f₂, hv]

theorem row_query (r : Fin 8) (h : Fin 128) (hs) :
    extractStridedSlice S1x128 ![r.val, 0] (query (F := Ideal) (View.ld xg rG) (View.ld x6 rSq)) hs (ix2 0 h) = ∑ j : Fin 128, xg (ix2 r j) * x6 (ix2 j h) := by
  have e : extractStridedSlice S1x128 ![r.val, 0] (query (F := Ideal) (View.ld xg rG) (View.ld x6 rSq)) hs (ix2 0 h) = query (F := Ideal) (View.ld xg rG) (View.ld x6 rSq) (ix2 r h) := by
    pointwise
  have eg (j : Fin 128) : View.ld xg rG (ix2 r j) = xg (ix2 r j) := by pointwise
  have e6 (j h : Fin 128) : View.ld x6 rSq (ix2 j h) = x6 (ix2 j h) := by pointwise
  rw [e, query_apply]
  simp only [eg, e6]

/-- A stored row at an index of its rectangle, and the number the block has at the index under it. -/
theorem piece_apply (r : Fin 8) (x : S1x128.Idx) (X₁ X₂ : Vec Ideal S1x100x128 .f32) (v : FVec Ideal S1x128 .f32)
    (h₁ : ∀ k j, X₁ (ix3 0 k j) = x0 (ix3 r k j)) (h₂ : ∀ k j, X₂ (ix3 0 k j) = x1 (ix3 r k j))
    (hv : ∀ h, v (ix2 0 h) = ∑ j : Fin 128, xg (ix2 r j) * x6 (ix2 j h)) (y : S8x128.Idx) (h0 : (y 0).val = r.val + 1 * (x 0).val) (h1 : (y 1).val = 0 + 1 * (x 1).val) :
    rowOut x4 x5 x7 X₁ X₂ v x = rowVal x0 x1 xg x4 x5 x6 x7 (y 0) (y 1) := by
  have hx0 : (x 0).val < 1 := (x 0).isLt
  have e0 : y 0 = r := Fin.ext (by omega)
  have e1 : y 1 = x 1 := Fin.ext (by omega)
  have ex : x = ix2 0 (x 1) := (eq_ix2 x).trans (congrArg (fun a : Fin 1 => ix2 a (x 1)) (Subsingleton.elim (α := Fin 1) (x 0) 0))
  rw [e0, e1]
  refine (congrArg (rowOut x4 x5 x7 X₁ X₂ v) ex).trans ?_
  exact rowOut_apply x0 x1 xg x4 x5 x6 x7 r (x 1) X₁ X₂ v h₁ h₂ hv

theorem outOf_apply (r : Fin 8) (l : Fin 128) : outOf x0 x1 xg x4 x5 x6 x7 (ix2 r l) = rowVal x0 x1 xg x4 x5 x6 x7 r l := by
  unfold outOf
  refine View.canon_apply_of_pieces (Val := Elt Ideal) (S := S8x128) (e := .f32) (fun y : S8x128.Idx => (rowVal x0 x1 xg x4 x5 x6 x7 (y 0) (y 1) : EReal)) _ ?_ (ix2 r l) (Attn.cover _ _ _ _ _ _ _ _ _)
  intro pc hpc x
  simp only [List.mem_cons, List.not_mem_nil, or_false] at hpc
  rcases hpc with rfl | rfl | rfl | rfl | rfl | rfl | rfl | rfl
  · exact piece_apply x0 x1 xg x4 x5 x6 x7 7 x (View.ld x0 rX7) (View.ld x1 rX7) _ (fun k j => by pointwise) (fun k j => by pointwise) (fun h => row_query xg x6 7 h _) (rO7.emb x) rfl rfl
  · exact piece_apply x0 x1 xg x4 x5 x6 x7 6 x (View.ld x0 rX6) (View.ld x1 rX6) _ (fun k j => by pointwise) (fun k j => by pointwise) (fun h => row_query xg x6 6 h _) (rO6.emb x) rfl rfl
  · exact piece_apply x0 x1 xg x4 x5 x6 x7 5 x (View.ld x0 rX5) (View.ld x1 rX5) _ (fun k j => by pointwise) (fun k j => by pointwise) (fun h => row_query xg x6 5 h _) (rO5.emb x) rfl rfl
  · exact piece_apply x0 x1 xg x4 x5 x6 x7 4 x (View.ld x0 rX4) (View.ld x1 rX4) _ (fun k j => by pointwise) (fun k j => by pointwise) (fun h => row_query xg x6 4 h _) (rO4.emb x) rfl rfl
  · exact piece_apply x0 x1 xg x4 x5 x6 x7 3 x (View.ld x0 rX3) (View.ld x1 rX3) _ (fun k j => by pointwise) (fun k j => by pointwise) (fun h => row_query xg x6 3 h _) (rO3.emb x) rfl rfl
  · exact piece_apply x0 x1 xg x4 x5 x6 x7 2 x (View.ld x0 rX2) (View.ld x1 rX2) _ (fun k j => by pointwise) (fun k j => by pointwise) (fun h => row_query xg x6 2 h _) (rO2.emb x) rfl rfl
  · exact piece_apply x0 x1 xg x4 x5 x6 x7 1 x (View.ld x0 rX1) (View.ld x1 rX1) _ (fun k j => by pointwise) (fun k j => by pointwise) (fun h => row_query xg x6 1 h _) (rO1.emb x) rfl rfl
  · exact piece_apply x0 x1 xg x4 x5 x6 x7 0 x (View.ld x0 rX0) (View.ld x1 rX0) _ (fun k j => by pointwise) (fun k j => by pointwise) (fun h => row_query xg x6 0 h _) (rO0.emb x) rfl rfl

end Rows

end Cert.KernelIdeal.Val

end
-- ==== Proof.KernelRows.lean ====
/-
  The two result arrays of the attention call read at one graph and one lane, over the extended reals.
-/
module

public import proofs.«01_k».proof.Proof.KernelValue

@[expose] public section

set_option maxRecDepth 16384

noncomputable section

namespace Cert.KernelIdeal.Val

open Cert.KernelIdeal Cert.KernelIdeal.Gen Cert.KernelIdeal.Gather Cert.KernelIdeal.Attn Idealize.ShloMosaic
open Idealize.ShloMosaic.Pipeline (Dat Cfg Window)
open Cert.KernelIdeal.Run (td)

/-- Graph `g`'s attention at lane `l`, off the arrays the call is given. -/
def graphVal (X₁ X₂ : S1000x100x128.Idx → EReal) (xg : S1000x128.Idx → EReal) (Wu : S128x128.Idx → EReal) (bu : S1x128.Idx → EReal) (Wv : S128x128.Idx → EReal) (We : S128x1.Idx → EReal) (g : Fin 1000) (l : Fin 128) : EReal :=
  blend (sc (fun k j => X₁ (ix3 g k j)) (fun h => ∑ j : Fin 128, xg (ix2 g j) * Wv (ix2 j h)) (fun j h => Wu (ix2 j h)) (fun h => bu (ix2 0 h)) (fun h => We (ix2 h 0)))
    (sc (fun k j => X₂ (ix3 g k j)) (fun h => ∑ j : Fin 128, xg (ix2 g j) * Wv (ix2 j h)) (fun j h => Wu (ix2 j h)) (fun h => bu (ix2 0 h)) (fun h => We (ix2 h 0)))
    (fun k => X₁ (ix3 g k l)) (fun k => X₂ (ix3 g k l))

/-- Row `r` of point `t`'s block is graph `8 t + r`. -/
def graphAt (t : Fin cfg1.N) (r : Fin 8) : Fin 1000 :=
  ⟨t.val * 8 + r.val, by have h : t.val < 125 := t.isLt; have := r.isLt; omega⟩

theorem at_0 : ∀ t : Fin grid1.N, cc1_transform_0 (grid1.coords t) 0 = t.val ∧ cc1_transform_0 (grid1.coords t) 1 = 0 ∧ cc1_transform_0 (grid1.coords t) 2 = 0 := by decide +kernel
theorem at_1 : ∀ t : Fin grid1.N, cc1_transform_1 (grid1.coords t) 0 = t.val ∧ cc1_transform_1 (grid1.coords t) 1 = 0 ∧ cc1_transform_1 (grid1.coords t) 2 = 0 := by decide +kernel
theorem at_2 : ∀ t : Fin grid1.N, cc1_transform_2 (grid1.coords t) 0 = t.val ∧ cc1_transform_2 (grid1.coords t) 1 = 0 := by decide +kernel
theorem at_3 : ∀ t : Fin grid1.N, cc1_transform_3 (grid1.coords t) 0 = t.val ∧ cc1_transform_3 (grid1.coords t) 1 = 0 := by decide +kernel
theorem at_4 : ∀ t : Fin grid1.N, cc1_transform_4 (grid1.coords t) 0 = 0 ∧ cc1_transform_4 (grid1.coords t) 1 = 0 := by decide +kernel
theorem at_5 : ∀ t : Fin grid1.N, cc1_transform_5 (grid1.coords t) 0 = 0 ∧ cc1_transform_5 (grid1.coords t) 1 = 0 := by decide +kernel
theorem at_6 : ∀ t : Fin grid1.N, cc1_transform_6 (grid1.coords t) 0 = 0 ∧ cc1_transform_6 (grid1.coords t) 1 = 0 := by decide +kernel
theorem at_7 : ∀ t : Fin grid1.N, cc1_transform_7 (grid1.coords t) 0 = 0 ∧ cc1_transform_7 (grid1.coords t) 1 = 0 := by decide +kernel
theorem at_8 : ∀ t : Fin grid1.N, cc1_transform_8 (grid1.coords t) 0 = t.val ∧ cc1_transform_8 (grid1.coords t) 1 = 0 := by decide +kernel
theorem at_9 : ∀ t : Fin grid1.N, cc1_transform_9 (grid1.coords t) 0 = t.val ∧ cc1_transform_9 (grid1.coords t) 1 = 0 := by decide +kernel

section Windows

variable (W : Dev nD → Valuation τ sig (Elt Ideal)) (c : Dev nD) (t : Fin cfg1.N)

theorem blk_0 (r : Fin 8) (k : Fin 100) (j : Fin 128) : iblk W c 0 t (ix3 r k j) = W c (td main_v3) (ix3 (graphAt t r) k j) := by
  obtain ⟨h0, h1, h2⟩ := at_0 t
  refine congrArg (W c (td main_v3)) (funext fun a => Fin.ext ?_)
  match a with
  | ⟨0, _⟩ => show cc1_transform_0 (grid1.coords t) 0 * 8 + 1 * r.val = t.val * 8 + r.val; omega
  | ⟨1, _⟩ => show cc1_transform_0 (grid1.coords t) 1 * 100 + 1 * k.val = k.val; omega
  | ⟨2, _⟩ => show cc1_transform_0 (grid1.coords t) 2 * 128 + 1 * j.val = j.val; omega
theorem blk_1 (r : Fin 8) (k : Fin 100) (j : Fin 128) : iblk W c 1 t (ix3 r k j) = W c (td main_v4) (ix3 (graphAt t r) k j) := by
  obtain ⟨h0, h1, h2⟩ := at_1 t
  refine congrArg (W c (td main_v4)) (funext fun a => Fin.ext ?_)
  match a with
  | ⟨0, _⟩ => show cc1_transform_1 (grid1.coords t) 0 * 8 + 1 * r.val = t.val * 8 + r.val; omega
  | ⟨1, _⟩ => show cc1_transform_1 (grid1.coords t) 1 * 100 + 1 * k.val = k.val; omega
  | ⟨2, _⟩ => show cc1_transform_1 (grid1.coords t) 2 * 128 + 1 * j.val = j.val; omega
theorem blk_2 (r : Fin 8) (j : Fin 128) : iblk W c 2 t (ix2 r j) = W c (td main_v6) (ix2 (graphAt t r) j) := by
  obtain ⟨h0, h1⟩ := at_2 t
  refine congrArg (W c (td main_v6)) (funext fun a => Fin.ext ?_)
  match a with
  | ⟨0, _⟩ => show cc1_transform_2 (grid1.coords t) 0 * 8 + 1 * r.val = t.val * 8 + r.val; omega
  | ⟨1, _⟩ => show cc1_transform_2 (grid1.coords t) 1 * 128 + 1 * j.val = j.val; omega
theorem blk_3 (r : Fin 8) (j : Fin 128) : iblk W c 3 t (ix2 r j) = W c (td main_v7) (ix2 (graphAt t r) j) := by
  obtain ⟨h0, h1⟩ := at_3 t
  refine congrArg (W c (td main_v7)) (funext fun a => Fin.ext ?_)
  match a with
  | ⟨0, _⟩ => show cc1_transform_3 (grid1.coords t) 0 * 8 + 1 * r.val = t.val * 8 + r.val; omega
  | ⟨1, _⟩ => show cc1_transform_3 (grid1.coords t) 1 * 128 + 1 * j.val = j.val; omega
theorem blk_4 (i j : Fin 128) : iblk W c 4 t (ix2 i j) = W c (td main_arg3) (ix2 i j) := by
  obtain ⟨h0, h1⟩ := at_4 t
  refine congrArg (W c (td main_arg3)) (funext fun a => Fin.ext ?_)
  match a with
  | ⟨0, _⟩ => show cc1_transform_4 (grid1.coords t) 0 * 128 + 1 * i.val = i.val; omega
  | ⟨1, _⟩ => show cc1_transform_4 (grid1.coords t) 1 * 128 + 1 * j.val = j.val; omega
theorem blk_5 (i : Fin 1) (j : Fin 128) : iblk W c 5 t (ix2 i j) = W c (td main_v5) (ix2 i j) := by
  obtain ⟨h0, h1⟩ := at_5 t
  refine congrArg (W c (td main_v5)) (funext fun a => Fin.ext ?_)
  match a with
  | ⟨0, _⟩ => show cc1_transform_5 (grid1.coords t) 0 * 1 + 1 * i.val = i.val; omega
  | ⟨1, _⟩ => show cc1_transform_5 (grid1.coords t) 1 * 128 + 1 * j.val = j.val; omega
theorem blk_6 (i j : Fin 128) : iblk W c 6 t (ix2 i j) = W c (td main_arg5) (ix2 i j) := by
  obtain ⟨h0, h1⟩ := at_6 t
  refine congrArg (W c (td main_arg5)) (funext fun a => Fin.ext ?_)
  match a with
  | ⟨0, _⟩ => show cc1_transform_6 (grid1.coords t) 0 * 128 + 1 * i.val = i.val; omega
  | ⟨1, _⟩ => show cc1_transform_6 (grid1.coords t) 1 * 128 + 1 * j.val = j.val; omega
theorem blk_7 (i : Fin 128) (j : Fin 1) : iblk W c 7 t (ix2 i j) = W c (td main_arg6) (ix2 i j) := by
  obtain ⟨h0, h1⟩ := at_7 t
  refine congrArg (W c (td main_arg6)) (funext fun a => Fin.ext ?_)
  match a with
  | ⟨0, _⟩ => show cc1_transform_7 (grid1.coords t) 0 * 128 + 1 * i.val = i.val; omega
  | ⟨1, _⟩ => show cc1_transform_7 (grid1.coords t) 1 * 1 + 1 * j.val = j.val; omega

/-- The first result's array, graph by graph. -/
def want0 (i : S1000x128.Idx) : EReal :=
  graphVal (W c (td main_v3)) (W c (td main_v4)) (W c (td main_v6)) (W c (td main_arg3)) (W c (td main_v5)) (W c (td main_arg5)) (W c (td main_arg6)) (i 0) (i 1)
/-- The second's. -/
def want1 (i : S1000x128.Idx) : EReal :=
  graphVal (W c (td main_v3)) (W c (td main_v4)) (W c (td main_v7)) (W c (td main_arg3)) (W c (td main_v5)) (W c (td main_arg5)) (W c (td main_arg6)) (i 0) (i 1)

theorem block0 (r : Fin 8) (l : Fin 128) :
    outOf (iblk W c 0 t) (iblk W c 1 t) (iblk W c 2 t) (iblk W c 4 t) (iblk W c 5 t) (iblk W c 6 t) (iblk W c 7 t) (ix2 r l) = want0 W c (ix2 (graphAt t r) l) := by
  refine (outOf_apply _ _ _ _ _ _ _ r l).trans ?_
  unfold rowVal want0 graphVal
  simp only [blk_0, blk_1, blk_2, blk_4, blk_5, blk_6, blk_7]
  rfl
theorem block1 (r : Fin 8) (l : Fin 128) :
    outOf (iblk W c 0 t) (iblk W c 1 t) (iblk W c 3 t) (iblk W c 4 t) (iblk W c 5 t) (iblk W c 6 t) (iblk W c 7 t) (ix2 r l) = want1 W c (ix2 (graphAt t r) l) := by
  refine (outOf_apply _ _ _ _ _ _ _ r l).trans ?_
  unfold rowVal want1 graphVal
  simp only [blk_0, blk_1, blk_3, blk_4, blk_5, blk_6, blk_7]
  rfl

theorem under_8 (r : Fin 8) (l : Fin 128) : ((cfg1.win 8).blk t).view.emb (ix2 r l) = (ix2 (graphAt t r) l : S1000x128.Idx) := by
  obtain ⟨h0, h1⟩ := at_8 t
  refine funext fun a => Fin.ext ?_
  match a with
  | ⟨0, _⟩ => show cc1_transform_8 (grid1.coords t) 0 * 8 + 1 * r.val = t.val * 8 + r.val; omega
  | ⟨1, _⟩ => show cc1_transform_8 (grid1.coords t) 1 * 128 + 1 * l.val = l.val; omega
theorem under_9 (r : Fin 8) (l : Fin 128) : ((cfg1.win 9).blk t).view.emb (ix2 r l) = (ix2 (graphAt t r) l : S1000x128.Idx) := by
  obtain ⟨h0, h1⟩ := at_9 t
  refine funext fun a => Fin.ext ?_
  match a with
  | ⟨0, _⟩ => show cc1_transform_9 (grid1.coords t) 0 * 8 + 1 * r.val = t.val * 8 + r.val; omega
  | ⟨1, _⟩ => show cc1_transform_9 (grid1.coords t) 1 * 128 + 1 * l.val = l.val; omega

theorem flushed_8 : (dats W 0 c).flushed 8 t = ((cfg1.win 8).blk t).view.read (Elt Ideal) (want0 W c) := by
  show (cfg1.win 8).cut (cfg1.grid.coords t) ((dats W 0 c).after 8 t) = _
  rw [after_8]
  funext x
  have ex : x = (ix2 (x 0) (x 1) : S8x128.Idx) := eq_ix2 (n0 := 8) (n1 := 128) x
  rw [ex]
  exact (block0 W c t (x 0) (x 1)).trans (congrArg (want0 W c) (under_8 t (x 0) (x 1)).symm)
theorem flushed_9 : (dats W 0 c).flushed 9 t = ((cfg1.win 9).blk t).view.read (Elt Ideal) (want1 W c) := by
  show (cfg1.win 9).cut (cfg1.grid.coords t) ((dats W 0 c).after 9 t) = _
  rw [after_9]
  funext x
  have ex : x = (ix2 (x 0) (x 1) : S8x128.Idx) := eq_ix2 (n0 := 8) (n1 := 128) x
  rw [ex]
  exact (block1 W c t (x 0) (x 1)).trans (congrArg (want1 W c) (under_9 t (x 0) (x 1)).symm)

end Windows

theorem cover_8 (i : S1000x128.Idx) : ∃ t : Fin cfg1.N, (cfg1.win 8).flush t = true ∧ i ∈ ((cfg1.win 8).blk t).view.set := by
  have h0 : (i 0).val < 1000 := (i 0).isLt
  have ht : (i 0).val / 8 < cfg1.N := by show (i 0).val / 8 < 125; omega
  refine ⟨⟨(i 0).val / 8, ht⟩, flush1_8 _, ?_⟩
  have e := under_8 ⟨(i 0).val / 8, ht⟩ ⟨(i 0).val % 8, by omega⟩ (i 1)
  have ei : i = (ix2 (graphAt ⟨(i 0).val / 8, ht⟩ ⟨(i 0).val % 8, by omega⟩) (i 1) : S1000x128.Idx) :=
    (eq_ix2 (n0 := 1000) (n1 := 128) i).trans (congrArg (fun a : Fin 1000 => ix2 a (i 1)) (Fin.ext (by show (i 0).val = (i 0).val / 8 * 8 + (i 0).val % 8; omega)))
  have h := ((cfg1.win 8).blk ⟨(i 0).val / 8, ht⟩).view.emb_mem_set (ix2 (⟨(i 0).val % 8, by omega⟩ : Fin 8) (i 1))
  rw [e.trans ei.symm] at h
  exact h
theorem cover_9 (i : S1000x128.Idx) : ∃ t : Fin cfg1.N, (cfg1.win 9).flush t = true ∧ i ∈ ((cfg1.win 9).blk t).view.set := by
  have h0 : (i 0).val < 1000 := (i 0).isLt
  have ht : (i 0).val / 8 < cfg1.N := by show (i 0).val / 8 < 125; omega
  refine ⟨⟨(i 0).val / 8, ht⟩, flush1_9 _, ?_⟩
  have e := under_9 ⟨(i 0).val / 8, ht⟩ ⟨(i 0).val % 8, by omega⟩ (i 1)
  have ei : i = (ix2 (graphAt ⟨(i 0).val / 8, ht⟩ ⟨(i 0).val % 8, by omega⟩) (i 1) : S1000x128.Idx) :=
    (eq_ix2 (n0 := 1000) (n1 := 128) i).trans (congrArg (fun a : Fin 1000 => ix2 a (i 1)) (Fin.ext (by show (i 0).val = (i 0).val / 8 * 8 + (i 0).val % 8; omega)))
  have h := ((cfg1.win 9).blk ⟨(i 0).val / 8, ht⟩).view.emb_mem_set (ix2 (⟨(i 0).val % 8, by omega⟩ : Fin 8) (i 1))
  rw [e.trans ei.symm] at h
  exact h

theorem res0_eq (W : Dev nD → Valuation τ sig (Elt Ideal)) (c : Dev nD) : res0 W c = want0 W c :=
  (dats W 0 c).arrAt_eq_of_cover 8 (want0 W c) (fun t _ => flushed_8 W c t) cover_8
theorem res1_eq (W : Dev nD → Valuation τ sig (Elt Ideal)) (c : Dev nD) : res1 W c = want1 W c :=
  (dats W 0 c).arrAt_eq_of_cover 9 (want1 W c) (fun t _ => flushed_9 W c t) cover_9

end Cert.KernelIdeal.Val

end
-- ==== Proof.RefTerm.lean ====
/-
  The reference's composed term, in named parts, and the equation of the two results with them.
-/
module

public import proofs.«01_k».proof.Proof.Gen.ReferenceIdeal
public import proofs.«01_k».proof.Proof.Gen.ReferenceIdeal.Run

@[expose] public section

set_option maxRecDepth 16384

noncomputable section

namespace Cert.ReferenceIdeal.Val

open Cert.ReferenceIdeal Cert.ReferenceIdeal.Gen Idealize.ShloMosaic Idealize.ShloMosaic.TcCoe

variable {F : FTy → Type} [FloatOps F]

/-- The list of nodes, negative entries wrapped, as a column. -/
def nodeIdx (x2 : IVec S1000 32) : IVec S1000x1 32 :=
  broadcastInDim S1000x1 ![0] bcast_S1000_S1000x1_0 (select (cmpi .slt x2 (broadcastInDim S1000 ![] bcast_S_S1000 (constantI S_ 32 0#32))) (addi x2 (broadcastInDim S1000 ![] bcast_S_S1000 (constantI S_ 32 100000#32))) x2)
/-- The graph each of the 200000 rows belongs to. -/
def seg : IVec S200000 32 := shapeCast _ (broadcastInDim S1000x200 ![0] bcast_S1000_S1000x200_0 (iotaInDim S1000 32 0)) shapeCasts_S1000x200_S200000
/-- The same as a column. -/
def segIdx : IVec S200000x1 32 := broadcastInDim S200000x1 ![0] bcast_S200000_S200000x1_0 seg
/-- The same, negative entries wrapped. -/
def segWrap : IVec S200000x1 32 :=
  broadcastInDim S200000x1 ![0] bcast_S200000_S200000x1_0 (select (cmpi .slt seg (broadcastInDim S200000 ![] bcast_S_S200000 (constantI S_ 32 0#32))) (addi seg (broadcastInDim S200000 ![] bcast_S_S200000 (constantI S_ 32 1000#32))) seg)
/-- The rows of both tables, graph by graph. -/
def feats (x0 x1 : FVec F S100000x128 .f32) : FVec F S200000x128 .f32 :=
  shapeCast _ (concatenate S1000x200x128 1 [⟨S1000x100x128, (shapeCast _ x0 shapeCasts_S100000x128_S1000x100x128)⟩, ⟨S1000x100x128, (shapeCast _ x1 shapeCasts_S100000x128_S1000x100x128)⟩] concatenates_S1000x100x128_S1000x100x128_S1000x200x128_d1) shapeCasts_S1000x200x128_S200000x128
/-- The query rows of the graphs. -/
def queries (xt : FVec F S100000x128 .f32) (x2 : IVec S1000 32) (x5 : FVec F S128x128 .f32) : FVec F S1000x128 .f32 :=
  Host.dotGeneral dot_S1000x128_S128x128_S1000x128_1_0_0_1_n_n none (Host.gather gather_S100000x128_S1000x1_S1000x128_1_0_n_n_0_1_1128 xt (nodeIdx x2)) x5
/-- The query row of each of the 200000 rows. -/
def spread (q : FVec F S1000x128 .f32) : FVec F S200000x128 .f32 := Host.gather gather_S1000x128_S200000x1_S200000x128_1_0_n_n_0_1_1128 q segWrap
/-- A column over the graphs, read for each of the 200000 rows. -/
def spread1 (w : FVec F S1000x1 .f32) : FVec F S200000x1 .f32 := Host.gather gather_S1000x1_S200000x1_S200000x1_1_0_n_n_0_1_11 w segWrap
/-- The scores. -/
def scores (fe : FVec F S200000x128 .f32) (x3 : FVec F S128x128 .f32) (x4 : FVec F S128 .f32) (v : FVec F S200000x128 .f32) (x6 : FVec F S128x1 .f32) : FVec F S200000x1 .f32 :=
  Host.dotGeneral dot_S200000x128_S128x1_S200000x1_1_0_0_1_n_n none (Host.divf (broadcastInDim S200000x128 ![] bcast_S_S200000x128 (constant S_ .f32 0x3F800000#32)) (addf (broadcastInDim S200000x128 ![] bcast_S_S200000x128 (constant S_ .f32 0x3F800000#32)) (Host.exp (Host.negf (addf (addf (Host.dotGeneral dot_S200000x128_S128x128_S200000x128_1_0_0_1_n_n none fe x3) (broadcastInDim S200000x128 ![0, 1] bcast_S1x128_S200000x128_0_1 (broadcastInDim S1x128 ![1] bcast_S128_S1x128_1 x4))) v))))) x6
/-- The largest score of each graph. -/
def tops (e : FVec F S200000x1 .f32) : FVec F S1000x1 .f32 :=
  Host.reduce FloatOps.maximumf (shapeCast _ e shapeCasts_S200000x1_S1000x200x1 : FVec F S1000x200x1 .f32) (constant S_ .f32 0xFF800000#32) reducesTo_S1000x200x1_S1000x1_d1 h_S_
/-- The exponentials of the scores above the graph's largest. -/
def ups (e : FVec F S200000x1 .f32) : FVec F S200000x1 .f32 := Host.exp (subf e (spread1 (tops e)))
/-- The sums over the graphs. -/
def sums (x : FVec F S200000x1 .f32) : FVec F S1000x1 .f32 :=
  Host.scatterAdd scatter_S1000x1_S200000x1_S200000x1_1_0_0_1 (broadcastInDim S1000x1 ![] bcast_S_S1000x1 (constant S_ .f32 0x00000000#32)) segIdx x
/-- The weights. -/
def alphas (e : FVec F S200000x1 .f32) : FVec F S200000x1 .f32 := Host.divf (ups e) (spread1 (sums (ups e)))
/-- The readout of each graph. -/
def readout (fe : FVec F S200000x128 .f32) (a : FVec F S200000x1 .f32) : FVec F S1000x128 .f32 :=
  Host.scatterAdd scatter_S1000x128_S200000x1_S200000x128_1_0_0_1 (broadcastInDim S1000x128 ![] bcast_S_S1000x128 (constant S_ .f32 0x00000000#32)) segIdx
    (mulf fe (broadcastInDim S200000x128 ![0, 1] bcast_S200000x1_S200000x128_0_1 a))
/-- A result of the reference, whose query rows come from the table `xt`. -/
def result (xt x0 x1 : FVec F S100000x128 .f32) (x2 : IVec S1000 32) (x3 : FVec F S128x128 .f32) (x4 : FVec F S128 .f32) (x5 : FVec F S128x128 .f32) (x6 : FVec F S128x1 .f32) : FVec F S1000x128 .f32 :=
  readout (feats x0 x1) (alphas (scores (feats x0 x1) x3 x4 (spread (queries xt x2 x5)) x6))

variable (m : (ℓ : Loc nD τ sig) → Buf (Elt F) ℓ) (c : Dev nD)

theorem first_eq : Cert.ReferenceIdeal.Value.res_main_v111 m c
    = broadcastInDim S1000x1x128 ![0, 2] bcast_S1000x128_S1000x1x128_0_2 (result (m ((c.tc : Thread nD τ).loc main_arg0)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := rfl
theorem second_eq : Cert.ReferenceIdeal.Value.res_main_v112 m c
    = broadcastInDim S1000x1x128 ![0, 2] bcast_S1000x128_S1000x1x128_0_2 (result (m ((c.tc : Thread nD τ).loc main_arg1)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := rfl

end Cert.ReferenceIdeal.Val

end
-- ==== Proof.RefValue.lean ====
/-
  The reference read at one graph and one lane, over the extended reals.
-/
module

public import proofs.«01_k».proof.Proof.RefTerm
public import Idealize.ShloMosaic.Lib.Pointwise
public import Idealize.ShloMosaic.Lib.Routing.OpsPair
public import Idealize.ShloMosaic.Lib.Routing.Ops

@[expose] public section

set_option maxRecDepth 16384

noncomputable section

namespace Cert.ReferenceIdeal.Val

open Cert.ReferenceIdeal Cert.ReferenceIdeal.Gen Idealize.ShloMosaic

/-- Row `k` of graph `g`. -/
def rowAt (g : Fin 1000) (k : Fin 200) : Fin 200000 := ⟨g.val * 200 + k.val, by omega⟩

theorem seg_word (p : Fin 200000) : seg (ix1 p) = BitVec.ofNat 32 (p.val / 200) := by
  pointwise [seg]

theorem segIdx_word (p : Fin 200000) : segIdx (ix2 p 0) = BitVec.ofNat 32 (p.val / 200) := by
  rw [← seg_word]; pointwise [segIdx]

theorem segWrap_word (p : Fin 200000) : segWrap (ix2 p 0) = BitVec.ofNat 32 (p.val / 200) := by
  have e := seg_word p
  have h := p.isLt
  have : segWrap (ix2 p 0) = Scalar.select (IntOp.cmpi .slt (seg (ix1 p)) 0#32) (IntOp.addi (seg (ix1 p)) 1000#32) (seg (ix1 p)) := by
    pointwise [segWrap]
  rw [this, e]
  refine Routing.wrap_of_lt _ _ ?_
  rw [BitVec.toNat_ofNat]
  omega

theorem nodeIdx_word (x2 : IVec S1000 32) (h : ∀ i, (x2 i).toNat < 100000) (g : Fin 1000) : nodeIdx x2 (ix2 g 0) = x2 (ix1 g) := by
  have : nodeIdx x2 (ix2 g 0) = Scalar.select (IntOp.cmpi .slt (x2 (ix1 g)) 0#32) (IntOp.addi (x2 (ix1 g)) 100000#32) (x2 (ix1 g)) := by
    pointwise [nodeIdx]
  rw [this]
  refine Routing.wrap_of_lt _ _ ?_
  have := h (ix1 g)
  omega

/-- The graph of row `p`. -/
def graphOf (p : Fin 200000) : Fin 1000 := ⟨p.val / 200, by omega⟩

theorem spread_apply (q : FVec Ideal S1000x128 .f32) (p : Fin 200000) (l : Fin 128) : spread q (ix2 p l) = q (ix2 (graphOf p) l) := by
  have h := segWrap_word p
  rw [ix2_eq_valueIdx] at h
  unfold spread
  rw [ix2_eq_valueIdx, ix2_eq_valueIdx]
  exact Routing.gather_row _ rfl rfl rfl rfl rfl q segWrap p l (graphOf p) h (by norm_num)

theorem spread1_apply (q : FVec Ideal S1000x1 .f32) (p : Fin 200000) : spread1 q (ix2 p 0) = q (ix2 (graphOf p) 0) := by
  have h := segWrap_word p
  rw [ix2_eq_valueIdx] at h
  unfold spread1
  rw [ix2_eq_valueIdx, ix2_eq_valueIdx]
  exact Routing.gather_row _ rfl rfl rfl rfl rfl q segWrap p 0 (graphOf p) h (by norm_num)

/-- The table row of graph `g`'s last node. -/
def lastOf (x2 : IVec S1000 32) (g : Fin 1000) : Fin 100000 := ⟨(x2 (ix1 g)).toNat % 100000, Nat.mod_lt _ (by norm_num)⟩

theorem queries_apply (xt : FVec Ideal S100000x128 .f32) (x2 : IVec S1000 32) (h : ∀ i, (x2 i).toNat < 100000) (x5 : FVec Ideal S128x128 .f32) (g : Fin 1000) (l : Fin 128) :
    queries xt x2 x5 (ix2 g l) = ∑ j : Fin 128, xt (ix2 (lastOf x2 g) j) * x5 (ix2 j l) := by
  have hg : ∀ j : Fin 128, Host.gather gather_S100000x128_S1000x1_S1000x128_1_0_n_n_0_1_1128 xt (nodeIdx x2) (ix2 g j) = xt (ix2 (lastOf x2 g) j) := by
    intro j
    have h1 := nodeIdx_word x2 h g
    have h2 : x2 (ix1 g) = BitVec.ofNat 32 (lastOf x2 g).val := by
      have := h (ix1 g)
      apply BitVec.eq_of_toNat_eq
      rw [BitVec.toNat_ofNat]
      show _ = (x2 (ix1 g)).toNat % 100000 % 2 ^ 32
      omega
    rw [h2, ix2_eq_valueIdx] at h1
    rw [ix2_eq_valueIdx, ix2_eq_valueIdx]
    exact Routing.gather_row _ rfl rfl rfl rfl rfl xt (nodeIdx x2) g j (lastOf x2 g) h1 (by norm_num)
  unfold queries
  pointwise
  exact Finset.sum_congr rfl fun j _ => by rw [hg j]

theorem feats_apply (x0 x1 : FVec Ideal S100000x128 .f32) (g : Fin 1000) (k : Fin 200) (l : Fin 128) :
    feats x0 x1 (ix2 (rowAt g k) l)
      = if h : k.val < 100 then x0 (ix2 ⟨g.val * 100 + k.val, by omega⟩ l) else x1 (ix2 ⟨g.val * 100 + (k.val - 100), by omega⟩ l) := by
  pointwise [feats, rowAt]

theorem scores_apply (fe : FVec Ideal S200000x128 .f32) (x3 : FVec Ideal S128x128 .f32) (x4 : FVec Ideal S128 .f32) (v : FVec Ideal S200000x128 .f32) (x6 : FVec Ideal S128x1 .f32) (p : Fin 200000) :
    scores fe x3 x4 v x6 (ix2 p 0)
      = ∑ h : Fin 128, Ideal.div 1 (1 + Ideal.exp (-((∑ j : Fin 128, fe (ix2 p j) * x3 (ix2 j h)) + x4 (ix1 h) + v (ix2 p h)))) * x6 (ix2 h 0) := by
  pointwise [scores]

theorem tops_apply (e : FVec Ideal S200000x1 .f32) (g : Fin 1000) :
    tops e (ix2 g 0) = (Finset.univ : Finset (Fin 200)).fold max ⊥ fun k => e (ix2 (rowAt g k) 0) := by
  have hb : Ideal.ofBits .f32 0xFF800000#32 = ⊥ := by simp [Ideal.ofBits, Ideal.ieee]
  pointwise [tops, rowAt]
  rw [hb]

/-- Where the rows' updates of a segment sum land: row `p`, column `c` at graph `p / 200`, column `c`. -/
theorem land_one (p : Fin 200000) (c : Fin 1) (g : Fin 1000) (l : Fin 1) :
    scatter_S1000x1_S200000x1_S200000x1_1_0_0_1.resultIdx? (ix2 p c) segIdx = some (ix2 g l) ↔ p.val / 200 = g.val ∧ c.val = l.val := by
  have h0 : scatter_S1000x1_S200000x1_S200000x1_1_0_0_1.start (ix2 p c) segIdx 0 = (segIdx (ix2 p 0)).toInt := by
    unfold ScatterDims.start
    rw [dif_pos (by decide)]
    refine congrArg (fun i => (segIdx i).toInt) (funext fun b => ?_)
    match b with
    | ⟨0, _⟩ => rfl
    | ⟨1, _⟩ => rfl
  have h1 : scatter_S1000x1_S200000x1_S200000x1_1_0_0_1.start (ix2 p c) segIdx 1 = 0 := by
    unfold ScatterDims.start
    rw [dif_neg (by decide)]
  have w0 : scatter_S1000x1_S200000x1_S200000x1_1_0_0_1.window (ix2 p c) 0 = 0 := by
    unfold ScatterDims.window
    rw [dif_neg (by decide)]
  have w1 : scatter_S1000x1_S200000x1_S200000x1_1_0_0_1.window (ix2 p c) 1 = c.val := by
    unfold ScatterDims.window
    rw [dif_pos (by decide)]
    rfl
  have hp := p.isLt
  have hw : (segIdx (ix2 p 0)).toInt = ((p.val / 200 : ℕ) : Int) := by
    rw [segIdx_word, BitVec.toInt_eq_toNat_of_lt (by rw [BitVec.toNat_ofNat]; omega), BitVec.toNat_ofNat, Nat.mod_eq_of_lt (by omega)]
  rw [Routing.resultIdx?_eq_some]
  constructor
  · intro h
    have a0 := h 0
    have a1 := h 1
    rw [h0, w0, hw] at a0
    rw [h1, w1] at a1
    change ((p.val / 200 : ℕ) : Int) + ((0 : ℕ) : Int) = (g.val : Int) at a0
    change (0 : Int) + (c.val : Int) = (l.val : Int) at a1
    omega
  · intro h a
    match a with
    | ⟨0, _⟩ =>
      refine (congrArg₂ (fun (u : Int) (v : ℕ) => u + (v : Int)) (h0.trans hw) w0).trans ?_
      show ((p.val / 200 : ℕ) : Int) + ((0 : ℕ) : Int) = (g.val : Int)
      omega
    | ⟨1, _⟩ =>
      refine (congrArg₂ (fun (u : Int) (v : ℕ) => u + (v : Int)) h1 w1).trans ?_
      show (0 : Int) + (c.val : Int) = (l.val : Int)
      omega

theorem scatter_one (u : FVec Ideal S200000x1 .f32) (g : Fin 1000) (l : Fin 1) :
    Host.scatterAdd scatter_S1000x1_S200000x1_S200000x1_1_0_0_1 (broadcastInDim S1000x1 ![] bcast_S_S1000x1 (constant S_ .f32 0x00000000#32)) segIdx u (ix2 g l)
      = ∑ k : Fin 200, u (ix2 (rowAt g k) l) := by
  have hs : Host.scatterAdd scatter_S1000x1_S200000x1_S200000x1_1_0_0_1 (broadcastInDim S1000x1 ![] bcast_S_S1000x1 (constant S_ .f32 0x00000000#32)) segIdx u (ix2 g l)
      = 0 + ∑ j ∈ Finset.univ.filter (fun j => scatter_S1000x1_S200000x1_S200000x1_1_0_0_1.resultIdx? j segIdx = some (ix2 g l)), u j := by
    show (Ideal.ofBits .f32 0x00000000#32 : EReal) + _ = _
    rw [Ideal.ofBits_zero_f32]
  rw [hs, zero_add]
  symm
  refine Finset.sum_nbij (fun k => ix2 (rowAt g k) l) ?_ ?_ ?_ ?_
  · intro k _
    rw [Finset.mem_filter]
    refine ⟨Finset.mem_univ _, (land_one _ _ _ _).2 ⟨?_, rfl⟩⟩
    show (g.val * 200 + k.val) / 200 = g.val
    omega
  · intro k _ k' _ e
    have e' := ((ix2_inj _ _ _ _).1 e).1
    have e2 : g.val * 200 + k.val = g.val * 200 + k'.val := congrArg Fin.val e'
    exact Fin.ext (by omega)
  · intro j hj
    obtain ⟨p, c, rfl⟩ : ∃ (p : Fin 200000) (c : Fin 1), j = ix2 p c := ⟨j 0, j 1, eq_ix2 j⟩
    have e := (land_one p c g l).1 (Finset.mem_filter.1 hj).2
    obtain rfl : c = l := Fin.ext e.2
    refine ⟨⟨p.val % 200, Nat.mod_lt _ (by norm_num)⟩, Finset.mem_coe.2 (Finset.mem_univ _), ?_⟩
    refine congrArg (fun q => ix2 q c) (Fin.ext ?_)
    show g.val * 200 + p.val % 200 = p.val
    omega
  · intro k _; rfl

/-- Where the rows' updates of a segment sum land: row `p`, column `c` at graph `p / 200`, column `c`. -/
theorem land_rows (p : Fin 200000) (c : Fin 128) (g : Fin 1000) (l : Fin 128) :
    scatter_S1000x128_S200000x1_S200000x128_1_0_0_1.resultIdx? (ix2 p c) segIdx = some (ix2 g l) ↔ p.val / 200 = g.val ∧ c.val = l.val := by
  have h0 : scatter_S1000x128_S200000x1_S200000x128_1_0_0_1.start (ix2 p c) segIdx 0 = (segIdx (ix2 p 0)).toInt := by
    unfold ScatterDims.start
    rw [dif_pos (by decide)]
    refine congrArg (fun i => (segIdx i).toInt) (funext fun b => ?_)
    match b with
    | ⟨0, _⟩ => rfl
    | ⟨1, _⟩ => rfl
  have h1 : scatter_S1000x128_S200000x1_S200000x128_1_0_0_1.start (ix2 p c) segIdx 1 = 0 := by
    unfold ScatterDims.start
    rw [dif_neg (by decide)]
  have w0 : scatter_S1000x128_S200000x1_S200000x128_1_0_0_1.window (ix2 p c) 0 = 0 := by
    unfold ScatterDims.window
    rw [dif_neg (by decide)]
  have w1 : scatter_S1000x128_S200000x1_S200000x128_1_0_0_1.window (ix2 p c) 1 = c.val := by
    unfold ScatterDims.window
    rw [dif_pos (by decide)]
    rfl
  have hp := p.isLt
  have hw : (segIdx (ix2 p 0)).toInt = ((p.val / 200 : ℕ) : Int) := by
    rw [segIdx_word, BitVec.toInt_eq_toNat_of_lt (by rw [BitVec.toNat_ofNat]; omega), BitVec.toNat_ofNat, Nat.mod_eq_of_lt (by omega)]
  rw [Routing.resultIdx?_eq_some]
  constructor
  · intro h
    have a0 := h 0
    have a1 := h 1
    rw [h0, w0, hw] at a0
    rw [h1, w1] at a1
    change ((p.val / 200 : ℕ) : Int) + ((0 : ℕ) : Int) = (g.val : Int) at a0
    change (0 : Int) + (c.val : Int) = (l.val : Int) at a1
    omega
  · intro h a
    match a with
    | ⟨0, _⟩ =>
      refine (congrArg₂ (fun (u : Int) (v : ℕ) => u + (v : Int)) (h0.trans hw) w0).trans ?_
      show ((p.val / 200 : ℕ) : Int) + ((0 : ℕ) : Int) = (g.val : Int)
      omega
    | ⟨1, _⟩ =>
      refine (congrArg₂ (fun (u : Int) (v : ℕ) => u + (v : Int)) h1 w1).trans ?_
      show (0 : Int) + (c.val : Int) = (l.val : Int)
      omega

theorem scatter_rows (u : FVec Ideal S200000x128 .f32) (g : Fin 1000) (l : Fin 128) :
    Host.scatterAdd scatter_S1000x128_S200000x1_S200000x128_1_0_0_1 (broadcastInDim S1000x128 ![] bcast_S_S1000x128 (constant S_ .f32 0x00000000#32)) segIdx u (ix2 g l)
      = ∑ k : Fin 200, u (ix2 (rowAt g k) l) := by
  have hs : Host.scatterAdd scatter_S1000x128_S200000x1_S200000x128_1_0_0_1 (broadcastInDim S1000x128 ![] bcast_S_S1000x128 (constant S_ .f32 0x00000000#32)) segIdx u (ix2 g l)
      = 0 + ∑ j ∈ Finset.univ.filter (fun j => scatter_S1000x128_S200000x1_S200000x128_1_0_0_1.resultIdx? j segIdx = some (ix2 g l)), u j := by
    show (Ideal.ofBits .f32 0x00000000#32 : EReal) + _ = _
    rw [Ideal.ofBits_zero_f32]
  rw [hs, zero_add]
  symm
  refine Finset.sum_nbij (fun k => ix2 (rowAt g k) l) ?_ ?_ ?_ ?_
  · intro k _
    rw [Finset.mem_filter]
    refine ⟨Finset.mem_univ _, (land_rows _ _ _ _).2 ⟨?_, rfl⟩⟩
    show (g.val * 200 + k.val) / 200 = g.val
    omega
  · intro k _ k' _ e
    have e' := ((ix2_inj _ _ _ _).1 e).1
    have e2 : g.val * 200 + k.val = g.val * 200 + k'.val := congrArg Fin.val e'
    exact Fin.ext (by omega)
  · intro j hj
    obtain ⟨p, c, rfl⟩ : ∃ (p : Fin 200000) (c : Fin 128), j = ix2 p c := ⟨j 0, j 1, eq_ix2 j⟩
    have e := (land_rows p c g l).1 (Finset.mem_filter.1 hj).2
    obtain rfl : c = l := Fin.ext e.2
    refine ⟨⟨p.val % 200, Nat.mod_lt _ (by norm_num)⟩, Finset.mem_coe.2 (Finset.mem_univ _), ?_⟩
    refine congrArg (fun q => ix2 q c) (Fin.ext ?_)
    show g.val * 200 + p.val % 200 = p.val
    omega
  · intro k _; rfl

/-! ## A result of the reference -/

section Result

variable (xt x0 x1 : FVec Ideal S100000x128 .f32) (x2 : IVec S1000 32) (x3 : FVec Ideal S128x128 .f32) (x4 : FVec Ideal S128 .f32) (x5 : FVec Ideal S128x128 .f32) (x6 : FVec Ideal S128x1 .f32)

/-- Lane `l` of row `k` of graph `g`: the first table's hundred rows, then the second's. -/
def X (g : Fin 1000) (k : Fin 200) (l : Fin 128) : EReal :=
  if h : k.val < 100 then x0 (ix2 ⟨g.val * 100 + k.val, by omega⟩ l) else x1 (ix2 ⟨g.val * 100 + (k.val - 100), by omega⟩ l)

/-- Lane `h` of graph `g`'s query row. -/
def Q (g : Fin 1000) (h : Fin 128) : EReal := ∑ j : Fin 128, xt (ix2 (lastOf x2 g) j) * x5 (ix2 j h)

/-- The score of row `k` of graph `g`. -/
def E (g : Fin 1000) (k : Fin 200) : EReal :=
  ∑ h : Fin 128, Ideal.div 1 (1 + Ideal.exp (-((∑ j : Fin 128, X x0 x1 g k j * x3 (ix2 j h)) + x4 (ix1 h) + Q xt x2 x5 g h))) * x6 (ix2 h 0)

/-- The largest score of graph `g`. -/
def M (g : Fin 1000) : EReal := (Finset.univ : Finset (Fin 200)).fold max ⊥ fun k => E xt x0 x1 x2 x3 x4 x5 x6 g k

/-- The exponential of a score above the largest. -/
def U (g : Fin 1000) (k : Fin 200) : EReal := Ideal.exp (E xt x0 x1 x2 x3 x4 x5 x6 g k - M xt x0 x1 x2 x3 x4 x5 x6 g)

theorem graphOf_rowAt (g : Fin 1000) (k : Fin 200) : graphOf (rowAt g k) = g := by
  apply Fin.ext
  show (g.val * 200 + k.val) / 200 = g.val
  omega

/-- A result of the reference at graph `g` and lane `l`. -/
theorem result_apply (hx2 : ∀ i, (x2 i).toNat < 100000) (g : Fin 1000) (l : Fin 128) :
    result xt x0 x1 x2 x3 x4 x5 x6 (ix2 g l)
      = ∑ k : Fin 200, X x0 x1 g k l * Ideal.div (U xt x0 x1 x2 x3 x4 x5 x6 g k) (∑ k' : Fin 200, U xt x0 x1 x2 x3 x4 x5 x6 g k') := by
  have hE : ∀ k, scores (feats x0 x1) x3 x4 (spread (queries xt x2 x5)) x6 (ix2 (rowAt g k) 0) = E xt x0 x1 x2 x3 x4 x5 x6 g k := by
    intro k
    rw [scores_apply]
    refine Finset.sum_congr rfl fun h _ => ?_
    rw [spread_apply, graphOf_rowAt, queries_apply _ _ hx2]
    simp only [feats_apply]
    rfl
  have hU : ∀ k, ups (scores (feats x0 x1) x3 x4 (spread (queries xt x2 x5)) x6) (ix2 (rowAt g k) 0) = U xt x0 x1 x2 x3 x4 x5 x6 g k := by
    intro k
    have e : ups (scores (feats x0 x1) x3 x4 (spread (queries xt x2 x5)) x6) (ix2 (rowAt g k) 0)
        = Ideal.exp (scores (feats x0 x1) x3 x4 (spread (queries xt x2 x5)) x6 (ix2 (rowAt g k) 0)
            - spread1 (tops (scores (feats x0 x1) x3 x4 (spread (queries xt x2 x5)) x6)) (ix2 (rowAt g k) 0)) := rfl
    rw [e, hE, spread1_apply, graphOf_rowAt, tops_apply]
    simp only [hE]
    rfl
  have hr : ∀ k, (mulf (feats x0 x1) (broadcastInDim S200000x128 ![0, 1] bcast_S200000x1_S200000x128_0_1 (alphas (scores (feats x0 x1) x3 x4 (spread (queries xt x2 x5)) x6))) : FVec Ideal S200000x128 .f32) (ix2 (rowAt g k) l)
      = X x0 x1 g k l * Ideal.div (U xt x0 x1 x2 x3 x4 x5 x6 g k) (∑ k' : Fin 200, U xt x0 x1 x2 x3 x4 x5 x6 g k') := by
    intro k
    have e : (mulf (feats x0 x1) (broadcastInDim S200000x128 ![0, 1] bcast_S200000x1_S200000x128_0_1 (alphas (scores (feats x0 x1) x3 x4 (spread (queries xt x2 x5)) x6))) : FVec Ideal S200000x128 .f32) (ix2 (rowAt g k) l)
        = feats x0 x1 (ix2 (rowAt g k) l) * Ideal.div (ups (scores (feats x0 x1) x3 x4 (spread (queries xt x2 x5)) x6) (ix2 (rowAt g k) 0))
            (spread1 (sums (ups (scores (feats x0 x1) x3 x4 (spread (queries xt x2 x5)) x6))) (ix2 (rowAt g k) 0)) := by
      pointwise [alphas]
    rw [e, feats_apply, hU, spread1_apply, graphOf_rowAt]
    unfold sums
    rw [scatter_one]
    simp only [hU]
    rfl
  unfold result readout
  rw [scatter_rows]
  exact Finset.sum_congr rfl fun k _ => hr k

end Result

end Cert.ReferenceIdeal.Val

end
-- ==== Proof.Blend.lean ====
/-
  The one equation of extended reals the two programs differ by: dividing the weighted sum by the total, or
  weighing with the quotients. It needs the scores to be real numbers; the rows may hold anything.
-/
module

public import proofs.«01_k».proof.Proof.KernelValue

@[expose] public section

noncomputable section

namespace Cert.Blend

open Idealize.ShloMosaic Cert.KernelIdeal.Val

/-- A sigmoid is a real number. -/
theorem logistic_real (z : EReal) : ∃ r : ℝ, Ideal.logistic z = (r : EReal) := by
  induction z with
  | bot => exact ⟨0, by simp⟩
  | top => exact ⟨1, by simp⟩
  | coe x => exact ⟨_, Ideal.logistic_coe x⟩

/-- A sum of real numbers is one. -/
theorem sum_real {n : ℕ} (f : Fin n → EReal) (h : ∀ k, ∃ r : ℝ, f k = (r : EReal)) : ∃ r : ℝ, ∑ k, f k = (r : EReal) :=
  Finset.sum_induction f (fun x => ∃ r : ℝ, x = (r : EReal)) (fun _ _ ⟨a, ha⟩ ⟨b, hb⟩ => ⟨a + b, by rw [ha, hb, EReal.coe_add]⟩)
    ⟨0, EReal.coe_zero.symm⟩ fun k _ => h k

/-- A score is a real number when the last weights are. -/
theorem sc_real (X : Fin 100 → Fin 128 → EReal) (q : Fin 128 → EReal) (wu : Fin 128 → Fin 128 → EReal) (b w : Fin 128 → EReal)
    (hw : ∀ h, w h ≠ ⊤ ∧ w h ≠ ⊥) (k : Fin 100) : ∃ r : ℝ, sc X q wu b w k = (r : EReal) :=
  sum_real _ fun h => by
    obtain ⟨a, ha⟩ := logistic_real ((∑ j : Fin 128, X k j * wu j h) + b h + q h)
    exact ⟨a * (w h).toReal, by rw [ha, EReal.coe_mul, EReal.coe_toReal (hw h).1 (hw h).2]⟩

/-- The greatest of real scores is real. -/
theorem mx_real (e : Fin 100 → EReal) (h : ∀ k, ∃ r : ℝ, e k = (r : EReal)) : ∃ r : ℝ, mx e = (r : EReal) := by
  obtain ⟨i, _, hi⟩ := Finset.exists_mem_eq_sup (Finset.univ : Finset (Fin 100)) ⟨0, Finset.mem_univ _⟩ e
  obtain ⟨r, hr⟩ := h i
  exact ⟨r, (show mx e = e i from hi).trans hr⟩

/-- The greatest of two hundred is the greater of the greatest of each hundred. -/
theorem fold_halves (e : Fin 200 → EReal) (e₁ e₂ : Fin 100 → EReal) (h₁ : ∀ k : Fin 100, e ⟨k.val, by omega⟩ = e₁ k) (h₂ : ∀ k : Fin 100, e ⟨100 + k.val, by omega⟩ = e₂ k) :
    (Finset.univ : Finset (Fin 200)).fold max ⊥ e = max (mx e₁) (mx e₂) := by
  refine le_antisymm (Finset.sup_le (f := e) fun k _ => ?_) (max_le (Finset.sup_le (f := e₁) fun k _ => ?_) (Finset.sup_le (f := e₂) fun k _ => ?_))
  · by_cases hk : k.val < 100
    · exact le_max_of_le_left ((h₁ ⟨k.val, hk⟩).le.trans (Finset.le_sup (f := e₁) (Finset.mem_univ _)))
    · have hk' : k.val - 100 < 100 := by have := k.isLt; omega
      have e' : k = ⟨100 + (k.val - 100), by omega⟩ := Fin.ext (by show k.val = 100 + (k.val - 100); omega)
      rw [e']
      exact le_max_of_le_right ((h₂ ⟨k.val - 100, hk'⟩).le.trans (Finset.le_sup (f := e₂) (Finset.mem_univ _)))
  · rw [← h₁ k]; exact Finset.le_sup (f := e) (Finset.mem_univ _)
  · rw [← h₂ k]; exact Finset.le_sup (f := e) (Finset.mem_univ _)

theorem sum_halves (f : Fin 200 → EReal) (f₁ f₂ : Fin 100 → EReal) (h₁ : ∀ k : Fin 100, f ⟨k.val, by omega⟩ = f₁ k) (h₂ : ∀ k : Fin 100, f ⟨100 + k.val, by omega⟩ = f₂ k) :
    ∑ k, f k = ∑ k, f₁ k + ∑ k, f₂ k := by
  refine (Fin.sum_univ_add (a := 100) (b := 100) f).trans ?_
  exact congrArg₂ (· + ·) (Finset.sum_congr rfl fun k _ => h₁ k) (Finset.sum_congr rfl fun k _ => h₂ k)

/-- A nonnegative real factor goes into a sum. -/
theorem mul_sum_real (c : ℝ) (hc : 0 ≤ c) {n : ℕ} (f : Fin n → EReal) : (∑ k, f k) * (c : EReal) = ∑ k, f k * (c : EReal) := by
  have h := map_sum ({ toFun := fun y => (c : EReal) * y, map_zero' := mul_zero _, map_add' := fun y z => EReal.left_distrib_of_nonneg_of_ne_top (EReal.coe_nonneg.mpr hc) (EReal.coe_ne_top c) y z } : EReal →+ EReal) f Finset.univ
  rw [mul_comm]
  exact h.trans (Finset.sum_congr rfl fun k _ => mul_comm _ _)

theorem add_mul_real (c : ℝ) (hc : 0 ≤ c) (a b : EReal) : (a + b) * (c : EReal) = a * (c : EReal) + b * (c : EReal) := by
  rw [mul_comm, EReal.left_distrib_of_nonneg_of_ne_top (EReal.coe_nonneg.mpr hc) (EReal.coe_ne_top c), mul_comm, mul_comm _ b]

/-- A sum of positive real numbers is a positive real number. -/
theorem sum_pos (f : Fin 100 → EReal) (h : ∀ k, ∃ r : ℝ, 0 < r ∧ f k = (r : EReal)) : ∃ r : ℝ, 0 < r ∧ ∑ k, f k = (r : EReal) :=
  Finset.sum_induction_nonempty f (fun x => ∃ r : ℝ, 0 < r ∧ x = (r : EReal))
    (fun _ _ ⟨a, ha, ea⟩ ⟨b, hb, eb⟩ => ⟨a + b, add_pos ha hb, by rw [ea, eb, EReal.coe_add]⟩) ⟨0, Finset.mem_univ _⟩ fun k _ => h k

/-- The blend over two hundred rows, as the reference orders it. -/
theorem blend_eq (e x : Fin 200 → EReal) (e₁ e₂ x₁ x₂ : Fin 100 → EReal)
    (he₁ : ∀ k : Fin 100, e ⟨k.val, by omega⟩ = e₁ k) (he₂ : ∀ k : Fin 100, e ⟨100 + k.val, by omega⟩ = e₂ k)
    (hx₁ : ∀ k : Fin 100, x ⟨k.val, by omega⟩ = x₁ k) (hx₂ : ∀ k : Fin 100, x ⟨100 + k.val, by omega⟩ = x₂ k)
    (h₁ : ∀ k, ∃ r : ℝ, e₁ k = (r : EReal)) (h₂ : ∀ k, ∃ r : ℝ, e₂ k = (r : EReal)) :
    blend e₁ e₂ x₁ x₂ = ∑ k, x k * Ideal.div (Ideal.exp (e k - (Finset.univ : Finset (Fin 200)).fold max ⊥ e))
      (∑ k', Ideal.exp (e k' - (Finset.univ : Finset (Fin 200)).fold max ⊥ e)) := by
  rw [fold_halves e e₁ e₂ he₁ he₂]
  obtain ⟨m₁, hm₁⟩ := mx_real e₁ h₁
  obtain ⟨m₂, hm₂⟩ := mx_real e₂ h₂
  have hm : max (mx e₁) (mx e₂) = ((max m₁ m₂ : ℝ) : EReal) := by rw [hm₁, hm₂]; exact (EReal.coe_strictMono.monotone.map_max).symm
  unfold blend
  rw [hm]
  have pos (r : ℝ) : ∃ s : ℝ, 0 < s ∧ Ideal.exp ((r : EReal) - ((max m₁ m₂ : ℝ) : EReal)) = (s : EReal) :=
    ⟨Real.exp (r - max m₁ m₂), Real.exp_pos _, by rw [← EReal.coe_sub]; exact Ideal.exp_coe _⟩
  obtain ⟨s₁, p₁, hs₁⟩ := sum_pos (fun k => Ideal.exp (e₁ k - ((max m₁ m₂ : ℝ) : EReal))) fun k => by
    obtain ⟨r, hr⟩ := h₁ k; rw [hr]; exact pos r
  obtain ⟨s₂, p₂, hs₂⟩ := sum_pos (fun k => Ideal.exp (e₂ k - ((max m₁ m₂ : ℝ) : EReal))) fun k => by
    obtain ⟨r, hr⟩ := h₂ k; rw [hr]; exact pos r
  rw [sum_halves (fun k => Ideal.exp (e k - ((max m₁ m₂ : ℝ) : EReal))) (fun k => Ideal.exp (e₁ k - ((max m₁ m₂ : ℝ) : EReal))) (fun k => Ideal.exp (e₂ k - ((max m₁ m₂ : ℝ) : EReal)))
    (fun k => by rw [he₁]) (fun k => by rw [he₂]), hs₁, hs₂, ← EReal.coe_add]
  have hs : s₁ + s₂ ≠ 0 := (add_pos p₁ p₂).ne'
  have hc : 0 ≤ 1 / (s₁ + s₂) := (one_div_pos.mpr (add_pos p₁ p₂)).le
  simp only [Ideal.div_coe hs]
  rw [add_mul_real _ hc, mul_sum_real _ hc, mul_sum_real _ hc]
  refine (sum_halves _ _ _ (fun k => ?_) (fun k => ?_)).symm
  · rw [he₁, hx₁, mul_comm (x₁ k), mul_assoc, mul_assoc, mul_comm _ (x₁ k)]
  · rw [he₂, hx₂, mul_comm (x₂ k), mul_assoc, mul_assoc, mul_comm _ (x₂ k)]

end Cert.Blend

end
-- ==== Proof.KernelArrays.lean ====
/-
  What the attention call is given, off the launch memory, and its two results at one graph and one lane: the same
  number the reference's result is.
-/
module

public import proofs.«01_k».proof.Proof.KernelRows
public import proofs.«01_k».proof.Proof.RefValue
public import proofs.«01_k».proof.Proof.Blend

@[expose] public section

set_option maxRecDepth 16384

noncomputable section

namespace Cert.KernelIdeal.Val

open Cert.KernelIdeal Cert.KernelIdeal.Gen Cert.KernelIdeal.Gather Cert.KernelIdeal.Attn Idealize.ShloMosaic Idealize.ShloMosaic.StableHlo
open Cert.KernelIdeal.Run
open Cert.ReferenceIdeal.Val (lastOf X Q E M U result result_apply)

variable (m : (ℓ : Loc nD τ sig) → Buf (Elt Ideal) ℓ) (d : Dev nD)

/-- The arguments on device `d`. -/
abbrev arg0 : FVec Ideal S100000x128 .f32 := m ((SparseCore.T d).loc main_arg0)
abbrev arg1 : FVec Ideal S100000x128 .f32 := m ((SparseCore.T d).loc main_arg1)
abbrev arg2 : IVec S1000 32 := m ((SparseCore.T d).loc main_arg2)
abbrev arg3 : FVec Ideal S128x128 .f32 := m ((SparseCore.T d).loc main_arg3)
abbrev arg4 : FVec Ideal S128 .f32 := m ((SparseCore.T d).loc main_arg4)
abbrev arg5 : FVec Ideal S128x128 .f32 := m ((SparseCore.T d).loc main_arg5)
abbrev arg6 : FVec Ideal S128x1 .f32 := m ((SparseCore.T d).loc main_arg6)

theorem V2_arg (r : Ref sig .tc) (h2 : r ∉ [main_v2_0, main_v2_1]) (h1 : r ∉ [main_c, main_v0, main_v1]) : V2 m d (td r) = m (d, td r) :=
  (V2_keep m d r h2).trans (V1_keep m d r h1)
theorem V3_arg (r : Ref sig .tc) (h3 : r ∉ [main_v3, main_v4, main_v5, main_v6, main_v7]) (h2 : r ∉ [main_v2_0, main_v2_1]) (h1 : r ∉ [main_c, main_v0, main_v1]) : V3 m d (td r) = m (d, td r) :=
  (V3_keep m d r h3).trans (V2_arg m d r h2 h1)

theorem V3_v3 : V3 m d (td main_v3) = shapeCast S1000x100x128 (arg0 m d) shapeCasts_S100000x128_S1000x100x128 := by
  unfold V3; after_results
  exact congrArg (shapeCast S1000x100x128 · shapeCasts_S100000x128_S1000x100x128) (V2_arg m d main_arg0 (by decide) (by decide))
theorem V3_v4 : V3 m d (td main_v4) = shapeCast S1000x100x128 (arg1 m d) shapeCasts_S100000x128_S1000x100x128 := by
  unfold V3; after_results
  exact congrArg (shapeCast S1000x100x128 · shapeCasts_S100000x128_S1000x100x128) (V2_arg m d main_arg1 (by decide) (by decide))
theorem V3_v5 : V3 m d (td main_v5) = shapeCast S1x128 (arg4 m d) shapeCasts_S128_S1x128 := by
  unfold V3; after_results
  exact congrArg (shapeCast S1x128 · shapeCasts_S128_S1x128) (V2_arg m d main_arg4 (by decide) (by decide))
theorem afterB_v6 (W : Valuation τ sig (Elt Ideal)) (z : FVec Ideal S1024x128 .f32) (h : W (td main_v2_0) = z) :
    StableHlo.after opsB W (td main_v6) = extractStridedSlice S1000x128 ![0, 0] z slices_S1024x128_S1000x128_0_0 := by
  subst h; after_results
theorem V2_v2_0' : V2 m d (td main_v2_0) = gat (arg0 m d) (ix m d) := V2_v2_0 m d
theorem V3_v6 : V3 m d (td main_v6) = extractStridedSlice S1000x128 ![0, 0] (gat (arg0 m d) (ix m d)) slices_S1024x128_S1000x128_0_0 :=
  afterB_v6 (V2 m d) _ (V2_v2_0' m d)
theorem afterB_v7 (W : Valuation τ sig (Elt Ideal)) (z : FVec Ideal S1024x128 .f32) (h : W (td main_v2_1) = z) :
    StableHlo.after opsB W (td main_v7) = extractStridedSlice S1000x128 ![0, 0] z slices_S1024x128_S1000x128_0_0 := by
  subst h; after_results
theorem V2_v2_1' : V2 m d (td main_v2_1) = gat (arg1 m d) (ix m d) := V2_v2_1 m d
theorem V3_v7 : V3 m d (td main_v7) = extractStridedSlice S1000x128 ![0, 0] (gat (arg1 m d) (ix m d)) slices_S1024x128_S1000x128_0_0 :=
  afterB_v7 (V2 m d) _ (V2_v2_1' m d)

/-! ## At an index -/

theorem regroup_apply (x : FVec Ideal S100000x128 .f32) (g : Fin 1000) (k : Fin 100) (j : Fin 128) :
    shapeCast S1000x100x128 x shapeCasts_S100000x128_S1000x100x128 (ix3 g k j) = x (ix2 ⟨g.val * 100 + k.val, by omega⟩ j) := by
  pointwise

theorem padded_apply (x : S1000.Idx → BitVec 32) (g : Fin 1000) : padded x (ix1 (⟨g.val, by omega⟩ : Fin 1024)) = x (ix1 g) := by
  pointwise [padded]

theorem rowOf_eq (x : S1000.Idx → BitVec 32) (g : Fin 1000) : rowOf (padded x) ⟨g.val, by omega⟩ = lastOf x g := by
  have e : (fun a => match a with | ⟨0, _⟩ => (⟨g.val, by omega⟩ : Fin 1024) : S1024.Idx) = ix1 (⟨g.val, by omega⟩ : Fin 1024) :=
    eq_ix1 _
  refine Fin.ext ?_
  exact congrArg (fun v : BitVec 32 => v.toNat % 100000) ((congrArg (padded x) e).trans (padded_apply x g))

theorem gathered_apply (x : FVec Ideal S100000x128 .f32) (l : S1000.Idx → BitVec 32) (g : Fin 1000) (j : Fin 128) :
    extractStridedSlice S1000x128 ![0, 0] (gat x (padded l)) slices_S1024x128_S1000x128_0_0 (ix2 g j) = x (ix2 (lastOf l g) j) := by
  have e : extractStridedSlice S1000x128 ![0, 0] (gat x (padded l)) slices_S1024x128_S1000x128_0_0 (ix2 g j) = gat x (padded l) (ix2 (⟨g.val, by omega⟩ : Fin 1024) j) := by
    pointwise
  rw [e]
  refine congrArg x ?_
  refine (eq_ix2 _).trans ?_
  exact congrArg (fun a : Fin 100000 => ix2 a j) (rowOf_eq l g)

theorem bias_apply (x : FVec Ideal S128 .f32) (h : Fin 128) : shapeCast S1x128 x shapeCasts_S128_S1x128 (ix2 0 h) = x (ix1 h) := by
  pointwise

/-! ## The two results -/

/-- A graph's attention off the regrouped and gathered arrays is the reference's row. -/
theorem graphVal_eq (xt x0 x1 : FVec Ideal S100000x128 .f32) (x2 : IVec S1000 32) (x3 : FVec Ideal S128x128 .f32) (x4 : FVec Ideal S128 .f32) (x5 : FVec Ideal S128x128 .f32) (x6 : FVec Ideal S128x1 .f32)
    (hx2 : ∀ i, (x2 i).toNat < 100000) (hw : ∀ i, (x6 i : EReal) ≠ ⊤ ∧ (x6 i : EReal) ≠ ⊥) (g : Fin 1000) (l : Fin 128) :
    graphVal (shapeCast S1000x100x128 x0 shapeCasts_S100000x128_S1000x100x128) (shapeCast S1000x100x128 x1 shapeCasts_S100000x128_S1000x100x128)
        (extractStridedSlice S1000x128 ![0, 0] (gat xt (padded x2)) slices_S1024x128_S1000x128_0_0) x3 (shapeCast S1x128 x4 shapeCasts_S128_S1x128) x5 x6 g l
      = result xt x0 x1 x2 x3 x4 x5 x6 (ix2 g l) := by
  refine Eq.trans ?_ (result_apply xt x0 x1 x2 x3 x4 x5 x6 hx2 g l).symm
  unfold graphVal
  simp only [regroup_apply, gathered_apply, bias_apply]
  refine Blend.blend_eq (E xt x0 x1 x2 x3 x4 x5 x6 g) (fun k => X x0 x1 g k l) _ _ _ _ (fun k => ?_) (fun k => ?_) (fun k => ?_) (fun k => ?_)
    (Blend.sc_real _ _ _ _ _ fun h => hw _) (Blend.sc_real _ _ _ _ _ fun h => hw _)
  · have hk : k.val < 100 := k.isLt
    unfold E X sc
    simp only [hk, dif_pos, ↓reduceDIte]
    rfl
  · have hk : ¬ (100 + k.val < 100) := by omega
    unfold E X sc
    simp only [hk, dif_neg, ↓reduceDIte, Nat.add_sub_cancel_left]
    rfl
  · have hk : k.val < 100 := k.isLt
    unfold X
    simp only [hk, dif_pos, ↓reduceDIte]
  · have hk : ¬ (100 + k.val < 100) := by omega
    unfold X
    simp only [hk, dif_neg, ↓reduceDIte, Nat.add_sub_cancel_left, not_false_eq_true]

theorem first (hx2 : ∀ i, (arg2 m d i).toNat < 100000) (hw : ∀ i, (arg6 m d i : EReal) ≠ ⊤ ∧ (arg6 m d i : EReal) ≠ ⊥) :
    res0 (V3 m) d = result (arg0 m d) (arg0 m d) (arg1 m d) (arg2 m d) (arg3 m d) (arg4 m d) (arg5 m d) (arg6 m d) := by
  rw [res0_eq]
  funext i
  rw [eq_ix2 (n0 := 1000) (n1 := 128) i]
  refine Eq.trans ?_ (graphVal_eq (arg0 m d) (arg0 m d) (arg1 m d) (arg2 m d) (arg3 m d) (arg4 m d) (arg5 m d) (arg6 m d) hx2 hw (i 0) (i 1))
  unfold want0
  rw [V3_v3, V3_v4, V3_v5, V3_v6, V3_arg m d main_arg3 (by decide) (by decide) (by decide), V3_arg m d main_arg5 (by decide) (by decide) (by decide), V3_arg m d main_arg6 (by decide) (by decide) (by decide)]
  rfl

theorem second (hx2 : ∀ i, (arg2 m d i).toNat < 100000) (hw : ∀ i, (arg6 m d i : EReal) ≠ ⊤ ∧ (arg6 m d i : EReal) ≠ ⊥) :
    res1 (V3 m) d = result (arg1 m d) (arg0 m d) (arg1 m d) (arg2 m d) (arg3 m d) (arg4 m d) (arg5 m d) (arg6 m d) := by
  rw [res1_eq]
  funext i
  rw [eq_ix2 (n0 := 1000) (n1 := 128) i]
  refine Eq.trans ?_ (graphVal_eq (arg1 m d) (arg0 m d) (arg1 m d) (arg2 m d) (arg3 m d) (arg4 m d) (arg5 m d) (arg6 m d) hx2 hw (i 0) (i 1))
  unfold want1
  rw [V3_v3, V3_v4, V3_v5, V3_v7, V3_arg m d main_arg3 (by decide) (by decide) (by decide), V3_arg m d main_arg5 (by decide) (by decide) (by decide), V3_arg m d main_arg6 (by decide) (by decide) (by decide)]
  rfl

end Cert.KernelIdeal.Val

end
-- ==== Proof.Agree.lean ====
/-
  The idealized kernel and the reference, started on the same arguments, end with the same two results.
-/
module

public import proofs.«01_k».proof.Proof.Frames
public import proofs.«01_k».proof.Proof.KernelArrays

@[expose] public section

set_option maxRecDepth 16384

noncomputable section

namespace Cert.Agree

open Idealize.ShloMosaic Idealize.SL.Sem Cert.ReferenceIdeal.Val

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ) (c : Dev Cert.KernelIdeal.nD)

/-- The two programs' arguments on device `c` are the same. -/
def same : Prop :=
  m' ((c.tc : Thread Cert.ReferenceIdeal.nD Cert.ReferenceIdeal.τ).loc Cert.ReferenceIdeal.main_arg0) = Cert.KernelIdeal.Val.arg0 m c
  ∧ m' ((c.tc : Thread Cert.ReferenceIdeal.nD Cert.ReferenceIdeal.τ).loc Cert.ReferenceIdeal.main_arg1) = Cert.KernelIdeal.Val.arg1 m c
  ∧ m' ((c.tc : Thread Cert.ReferenceIdeal.nD Cert.ReferenceIdeal.τ).loc Cert.ReferenceIdeal.main_arg2) = Cert.KernelIdeal.Val.arg2 m c
  ∧ m' ((c.tc : Thread Cert.ReferenceIdeal.nD Cert.ReferenceIdeal.τ).loc Cert.ReferenceIdeal.main_arg3) = Cert.KernelIdeal.Val.arg3 m c
  ∧ m' ((c.tc : Thread Cert.ReferenceIdeal.nD Cert.ReferenceIdeal.τ).loc Cert.ReferenceIdeal.main_arg4) = Cert.KernelIdeal.Val.arg4 m c
  ∧ m' ((c.tc : Thread Cert.ReferenceIdeal.nD Cert.ReferenceIdeal.τ).loc Cert.ReferenceIdeal.main_arg5) = Cert.KernelIdeal.Val.arg5 m c
  ∧ m' ((c.tc : Thread Cert.ReferenceIdeal.nD Cert.ReferenceIdeal.τ).loc Cert.ReferenceIdeal.main_arg6) = Cert.KernelIdeal.Val.arg6 m c

theorem first_same (hs : same m m' c) (hn : ∀ i, (Cert.KernelIdeal.Val.arg2 m c i).toNat < 100000)
    (hw : ∀ i, (Cert.KernelIdeal.Val.arg6 m c i : EReal) ≠ ⊤ ∧ (Cert.KernelIdeal.Val.arg6 m c i : EReal) ≠ ⊥) :
    Cert.ReferenceIdeal.Value.res_main_v111 m' c = Cert.KernelIdeal.Run.V5 m c (Cert.KernelIdeal.Run.td Cert.KernelIdeal.main_v9) := by
  obtain ⟨h0, h1, h2, h3, h4, h5, h6⟩ := hs
  rw [first_eq, h0, h1, h2, h3, h4, h5, h6, Cert.KernelIdeal.Run.V5_v9, Cert.KernelIdeal.Val.first m c hn hw]

theorem second_same (hs : same m m' c) (hn : ∀ i, (Cert.KernelIdeal.Val.arg2 m c i).toNat < 100000)
    (hw : ∀ i, (Cert.KernelIdeal.Val.arg6 m c i : EReal) ≠ ⊤ ∧ (Cert.KernelIdeal.Val.arg6 m c i : EReal) ≠ ⊥) :
    Cert.ReferenceIdeal.Value.res_main_v112 m' c = Cert.KernelIdeal.Run.V5 m c (Cert.KernelIdeal.Run.td Cert.KernelIdeal.main_v10) := by
  obtain ⟨h0, h1, h2, h3, h4, h5, h6⟩ := hs
  rw [second_eq, h0, h1, h2, h3, h4, h5, h6, Cert.KernelIdeal.Run.V5_v10, Cert.KernelIdeal.Val.second m c hn hw]

theorem agree : Cert.algebraic_KernelIdeal_ReferenceIdeal_pre_nodes_in_range_and_finite := fun m ρ m' ρ' hpre hsame =>
  ⟨fun c => Cert.KernelIdeal.Run.V5 m c (Cert.KernelIdeal.Run.td Cert.KernelIdeal.main_v9),
    fun c => Cert.KernelIdeal.Run.V5 m c (Cert.KernelIdeal.Run.td Cert.KernelIdeal.main_v10),
    (θ_run Cert.KernelIdeal.defs _ _).mono (fun _ h => h.1)
      (Cert.Frames.run_ideal m ρ fun d => Cert.Ranges.nodes' _ _ _ _ _ _ _ (hpre d)),
    (θ_run Cert.ReferenceIdeal.defs _ _).mono (fun _ h c =>
        ⟨(h c).1.trans (first_same m m' c (hsame c) (Cert.Ranges.nodes' _ _ _ _ _ _ _ (hpre c)) (Cert.Ranges.weights _ _ _ _ _ _ _ (hpre c))),
          (h c).2.1.trans (second_same m m' c (hsame c) (Cert.Ranges.nodes' _ _ _ _ _ _ _ (hpre c)) (Cert.Ranges.weights _ _ _ _ _ _ _ (hpre c))),
          (h c).2.2⟩)
      (Cert.ReferenceIdeal.Value.run (F := Ideal) m' ρ')⟩

end Cert.Agree

end
-- ==== Proof.lean ====
/- The certificate's claim, put together from the modules under `Proof/`. -/
module

public import proofs.«01_k».proof.Defs
public import proofs.«01_k».proof.Proof.Frames
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts, Cert.Pre_nodes_in_range.Gen.facts,
    Cert.Pre_nodes_in_range_and_finite.own_facts,
    Cert.Frames.frame_kernel, Cert.Frames.frame_ideal, Cert.Frames.frame_ideal', Cert.Frames.frame_reference, Cert.Frames.frame_reference',
    trivial, Cert.Agree.agree⟩

end Cert.Proof

end
